-- ==== Defs.lean ====
def Pre_Kernel [hPre_in_vocab : Cert.Pre_in_vocab.Facts] (m : (ℓ : Loc Cert.Kernel.nD Cert.Kernel.τ Cert.Kernel.sig) → Buf (Elt Bits) ℓ) : Prop :=
  ∀ c : Dev Cert.Kernel.nD,
    (Cert.Pre_in_vocab.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_vocab : Cert.Pre_in_vocab.Facts] (m : (ℓ : Loc Cert.KernelIdeal.nD Cert.KernelIdeal.τ Cert.KernelIdeal.sig) → Buf (Elt Ideal) ℓ) : Prop :=
  ∀ c : Dev Cert.KernelIdeal.nD,
    (Cert.Pre_in_vocab.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_in_vocab : Cert.Pre_in_vocab.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_vocab.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_in_vocab : Cert.Pre_in_vocab.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_vocab : Cert.Pre_in_vocab.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] [hPre_in_vocab : Cert.Pre_in_vocab.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_vocab : Cert.Pre_in_vocab.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_vocab : Cert.Pre_in_vocab.Facts),
    quiescent_Kernel (hKernel := hKernel) (hPre_in_vocab := hPre_in_vocab)
    ∧ quiescent_KernelIdeal (hKernelIdeal := hKernelIdeal) (hPre_in_vocab := hPre_in_vocab)
    ∧ quiescent_ReferenceIdeal (hReferenceIdeal := hReferenceIdeal) (hPre_in_vocab := hPre_in_vocab)
    ∧ preserves_Kernel_KernelIdeal
    ∧ algebraic_KernelIdeal_ReferenceIdeal (hKernelIdeal := hKernelIdeal) (hReferenceIdeal := hReferenceIdeal) (hPre_in_vocab := hPre_in_vocab)
-- ==== Pre_in_vocab.lean ====
abbrev S16384x50 : Shape := ⟨2, ![16384, 50]⟩
abbrev S1000000x64 : Shape := ⟨2, ![1000000, 64]⟩
abbrev S_ : Shape := ⟨0, ![]⟩

class Facts : Prop where
  bcast_S_S16384x50 : S_.BroadcastsInDim S16384x50 (![] : Fin 0 → Fin S16384x50.rank)
  reducesTo_S16384x50_S_d0_1 : S16384x50.ReducesTo [0, 1] S_
  h_S_ : 0 < S_.numel

variable [Facts]

def fn {F : FTy → Type} [FloatOps F] (main_arg0 : IVec S16384x50 32) (main_arg1 : FVec F S1000000x64 .f32) : IVec S_ 1 :=
  let main_c : IVec S_ 32 := constantI S_ 32 0#32
  let main_v0 : IVec S16384x50 32 := broadcastInDim S16384x50 ![] bcast_S_S16384x50 main_c
  let main_v1 : IVec S16384x50 1 := cmpi .sge main_arg0 main_v0
  let main_c_0 : IVec S_ 32 := constantI S_ 32 1000000#32
  let main_v2 : IVec S16384x50 32 := broadcastInDim S16384x50 ![] bcast_S_S16384x50 main_c_0
  let main_v3 : IVec S16384x50 1 := cmpi .slt main_arg0 main_v2
  let main_v4 : IVec S16384x50 1 := andi main_v1 main_v3
  let main_c_1 : IVec S_ 1 := constantI S_ 1 1#1
  let main_v5 : IVec S_ 1 := (fun x v => Host.reduce IntOp.andi x v reducesTo_S16384x50_S_d0_1 h_S_) main_v4 main_c_1
  main_v5
-- ==== Kernel.lean ====
abbrev S16384x50 : Shape := ⟨2, ![16384, 50]⟩
abbrev S1000000x64 : Shape := ⟨2, ![1000000, 64]⟩
abbrev S50x16384 : Shape := ⟨2, ![50, 16384]⟩
abbrev S819200 : Shape := ⟨1, ![819200]⟩
abbrev S16384 : Shape := ⟨1, ![16384]⟩
abbrev S_ : Shape := ⟨0, ![]⟩
abbrev S1x16384 : Shape := ⟨2, ![1, 16384]⟩
abbrev S1000000x128 : Shape := ⟨2, ![1000000, 128]⟩
abbrev S50x64x16384 : Shape := ⟨3, ![50, 64, 16384]⟩
abbrev S2x128 : Shape := ⟨2, ![2, 128]⟩
abbrev S2x128x128 : Shape := ⟨3, ![2, 128, 128]⟩
abbrev S64x128 : Shape := ⟨2, ![64, 128]⟩
abbrev S16 : Shape := ⟨1, ![16]⟩
abbrev S1x128 : Shape := ⟨2, ![1, 128]⟩
abbrev S128 : Shape := ⟨1, ![128]⟩
abbrev S1x128x128 : Shape := ⟨3, ![1, 128, 128]⟩
abbrev S128x128 : Shape := ⟨2, ![128, 128]⟩
abbrev S1x64x16384 : Shape := ⟨3, ![1, 64, 16384]⟩
abbrev S64x16384 : Shape := ⟨2, ![64, 16384]⟩
abbrev S16384x50x64 : Shape := ⟨3, ![16384, 50, 64]⟩

abbrev nBuf : Table → Nat
  | .hbm => 9
  | .local .scVector .vmem => 5
  | _ => 0

abbrev bufTy : (tb : Table) → Fin (nBuf tb) → BufTy
  | .hbm, ⟨0, _⟩ => ⟨S16384x50, .i32⟩
  | .hbm, ⟨1, _⟩ => ⟨S1000000x64, .f32⟩
  | .hbm, ⟨2, _⟩ => ⟨S50x16384, .i32⟩
  | .hbm, ⟨3, _⟩ => ⟨S819200, .i32⟩
  | .hbm, ⟨4, _⟩ => ⟨S_, .i32⟩
  | .hbm, ⟨5, _⟩ => ⟨S_, .f32⟩
  | .hbm, ⟨6, _⟩ => ⟨S1000000x128, .f32⟩
  | .hbm, ⟨7, _⟩ => ⟨S50x64x16384, .f32⟩
  | .hbm, ⟨8, _⟩ => ⟨S16384x50x64, .f32⟩
  | .local .scVector .vmem, ⟨0, _⟩ => ⟨S16384, .i32⟩
  | .local .scVector .vmem, ⟨1, _⟩ => ⟨S16384, .i32⟩
  | .local .scVector .vmem, ⟨2, _⟩ => ⟨S2x128, .i32⟩
  | .local .scVector .vmem, ⟨3, _⟩ => ⟨S2x128x128, .f32⟩
  | .local .scVector .vmem, ⟨4, _⟩ => ⟨S64x128, .f32⟩
  | _, _ => ⟨S16384x50, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 13 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | _ => false

abbrev sig : RefSig :=
  ofTables nBuf rfl bufTy 4 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v0_scv : Ref sig .scVector := ⟨.hbm, 2, rfl⟩
abbrev main_v1_scv : Ref sig .scVector := ⟨.hbm, 3, rfl⟩
abbrev main_v2_scv : Ref sig .scVector := ⟨.hbm, 6, rfl⟩
abbrev main_v3_scv : Ref sig .scVector := ⟨.hbm, 7, rfl⟩
abbrev cc0_scratch0 : Ref sig .scVector := ⟨.vmem, 0, rfl⟩
abbrev cc0_scratch1 : Ref sig .scVector := ⟨.vmem, 1, rfl⟩
abbrev cc1_scratch0 : Ref sig .scVector := ⟨.vmem, 2, rfl⟩
abbrev cc1_scratch1 : Ref sig .scVector := ⟨.vmem, 3, rfl⟩
abbrev cc1_scratch2 : Ref sig .scVector := ⟨.vmem, 4, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v2 : BitVec 32 := Scalar.addi v1 c0_i32
  let c50_i32 : BitVec 32 := 50#32
  let v3 : BitVec 1 := Scalar.cmpi .slt v2 c50_i32
  let v4 : BitVec 32 := Scalar.extui v3
  let c0_i32_0 : BitVec 32 := 0#32
  let v5 : BitVec 1 := Scalar.cmpi .ne v4 c0_i32_0
  v5

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v2 : BitVec 32 := Scalar.addi v1 c0_i32
  let c0_i32_3_r0 : BitVec 32 := 0#32
  ![v2.toNat, 0]
def k0_off2 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v2 : BitVec 32 := Scalar.addi v1 c0_i32
  let c16384_i32 : BitVec 32 := 16384#32
  let v10 : BitVec 32 := Scalar.muli v2 c16384_i32
  ![v10.toNat]
def k0_cond2 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v6 : BitVec 32 := Scalar.addi v1 c32_i32
  let c50_i32_1 : BitVec 32 := 50#32
  let v7 : BitVec 1 := Scalar.cmpi .slt v6 c50_i32_1
  let v8 : BitVec 32 := Scalar.extui v7
  let c0_i32_2 : BitVec 32 := 0#32
  let v9 : BitVec 1 := Scalar.cmpi .ne v8 c0_i32_2
  v9

def k0_off3 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v6 : BitVec 32 := Scalar.addi v1 c32_i32
  let c0_i32_3_r2 : BitVec 32 := 0#32
  ![v6.toNat, 0]
def k0_off4 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v6 : BitVec 32 := Scalar.addi v1 c32_i32
  let c16384_i32 : BitVec 32 := 16384#32
  let v10 : BitVec 32 := Scalar.muli v6 c16384_i32
  ![v10.toNat]
abbrev grid1 : Pipeline.Grid := ⟨2, ![2, 16], ![false, false]⟩

def k1_off1 (i : grid1.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c200_i32 : BitVec 32 := 200#32
  let v2 : BitVec 32 := Scalar.muli v1 c200_i32
  let v4 : BitVec 32 := Scalar.addi v2 c0_i32
  let c0_i32_0 : BitVec 32 := 0#32
  let v6 : BitVec 1 := Scalar.cmpi .sgt v4 c0_i32_0
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c128_i32 : BitVec 32 := 128#32
  let c0_i32_2 : BitVec 32 := 0#32
  let v11 : BitVec 1 := Scalar.cmpi .sgt c128_i32 c0_i32_2
  let v12 : BitVec 32 := Scalar.extui v11
  let c0_i32_3 : BitVec 32 := 0#32
  let v13 : BitVec 1 := Scalar.cmpi .slt c128_i32 c0_i32_3
  let v14 : BitVec 32 := Scalar.extui v13
  let v15 : BitVec 32 := Scalar.subi v12 v14
  let v16 : BitVec 1 := Scalar.cmpi .ne v10 v15
  let v17 : BitVec 32 := Scalar.remsi v4 c128_i32
  let c0_i32_4 : BitVec 32 := 0#32
  let v18 : BitVec 1 := Scalar.cmpi .ne v17 c0_i32_4
  let v19 : BitVec 1 := Scalar.andi v16 v18
  let v5 : BitVec 32 := Scalar.divsi v4 c128_i32
  let c1_i32 : BitVec 32 := 1#32
  let v20 : BitVec 32 := Scalar.subi v5 c1_i32
  let v21 : BitVec 32 := Scalar.select v19 v20 v5
  let c16384_i32 : BitVec 32 := 16384#32
  let v33 : BitVec 32 := Scalar.muli v21 c16384_i32
  let c128_i32_5 : BitVec 32 := 128#32
  let c0_i32_6 : BitVec 32 := 0#32
  let v22 : BitVec 1 := Scalar.cmpi .eq c128_i32_5 c0_i32_6
  let c1_i32_7 : BitVec 32 := 1#32
  let v23 : BitVec 32 := Scalar.select v22 c1_i32_7 c128_i32_5
  let v24 : BitVec 32 := Scalar.remsi v4 v23
  let c0_i32_9 : BitVec 32 := 0#32
  let v26 : BitVec 1 := Scalar.cmpi .slt v24 c0_i32_9
  let c0_i32_10 : BitVec 32 := 0#32
  let v27 : BitVec 1 := Scalar.cmpi .slt v23 c0_i32_10
  let v28 : BitVec 1 := Scalar.xori v26 v27
  let c0_i32_8 : BitVec 32 := 0#32
  let v25 : BitVec 1 := Scalar.cmpi .ne v24 c0_i32_8
  let v29 : BitVec 1 := Scalar.andi v28 v25
  let v30 : BitVec 32 := Scalar.addi v24 v23
  let v31 : BitVec 32 := Scalar.select v29 v30 v24
  let c128_i32_11 : BitVec 32 := 128#32
  let v32 : BitVec 32 := Scalar.muli v31 c128_i32_11
  let v34 : BitVec 32 := Scalar.addi v33 v32
  ![v34.toNat]
def k1_off1_at (r : Fin 3) : BitVec 32 :=
  if r.val < 1 then
    0#32
  else
    if r.val < 2 then
      1#32
    else
      199#32
@[reducible] def k1_t1_loop : Scf.Loop 32 :=
  let c0_i32_40 : BitVec 32 := 0#32
  let c99_i32 : BitVec 32 := 99#32
  let v77 : BitVec 32 := Scalar.addi c0_i32_40 c99_i32
  let c1_i32_41 : BitVec 32 := 1#32
  ⟨c0_i32_40, v77, c1_i32_41⟩
def k1_off2 (i : grid1.Coords) (k1_t1 : Fin k1_t1_loop.trips) (c1_i32_132 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c200_i32 : BitVec 32 := 200#32
  let v2 : BitVec 32 := Scalar.muli v1 c200_i32
  let c0_i32_40 : BitVec 32 := 0#32
  let c1_i32_41 : BitVec 32 := 1#32
  let arg12 : BitVec 32 := Scf.iv c0_i32_40 c1_i32_41 k1_t1
  let c2_i32_124 : BitVec 32 := 2#32
  let v197 : BitVec 32 := Scalar.muli arg12 c2_i32_124
  let v203 : BitVec 32 := Scalar.addi v197 c1_i32_132
  let v204 : BitVec 32 := Scalar.addi v2 v203
  let c0_i32_134 : BitVec 32 := 0#32
  let v206 : BitVec 1 := Scalar.cmpi .sgt v204 c0_i32_134
  let v207 : BitVec 32 := Scalar.extui v206
  let c0_i32_135 : BitVec 32 := 0#32
  let v208 : BitVec 1 := Scalar.cmpi .slt v204 c0_i32_135
  let v209 : BitVec 32 := Scalar.extui v208
  let v210 : BitVec 32 := Scalar.subi v207 v209
  let c128_i32_133 : BitVec 32 := 128#32
  let c0_i32_136 : BitVec 32 := 0#32
  let v211 : BitVec 1 := Scalar.cmpi .sgt c128_i32_133 c0_i32_136
  let v212 : BitVec 32 := Scalar.extui v211
  let c0_i32_137 : BitVec 32 := 0#32
  let v213 : BitVec 1 := Scalar.cmpi .slt c128_i32_133 c0_i32_137
  let v214 : BitVec 32 := Scalar.extui v213
  let v215 : BitVec 32 := Scalar.subi v212 v214
  let v216 : BitVec 1 := Scalar.cmpi .ne v210 v215
  let v217 : BitVec 32 := Scalar.remsi v204 c128_i32_133
  let c0_i32_138 : BitVec 32 := 0#32
  let v218 : BitVec 1 := Scalar.cmpi .ne v217 c0_i32_138
  let v219 : BitVec 1 := Scalar.andi v216 v218
  let v205 : BitVec 32 := Scalar.divsi v204 c128_i32_133
  let c1_i32_139 : BitVec 32 := 1#32
  let v220 : BitVec 32 := Scalar.subi v205 c1_i32_139
  let v221 : BitVec 32 := Scalar.select v219 v220 v205
  let c16384_i32_147 : BitVec 32 := 16384#32
  let v233 : BitVec 32 := Scalar.muli v221 c16384_i32_147
  let c128_i32_140 : BitVec 32 := 128#32
  let c0_i32_141 : BitVec 32 := 0#32
  let v222 : BitVec 1 := Scalar.cmpi .eq c128_i32_140 c0_i32_141
  let c1_i32_142 : BitVec 32 := 1#32
  let v223 : BitVec 32 := Scalar.select v222 c1_i32_142 c128_i32_140
  let v224 : BitVec 32 := Scalar.remsi v204 v223
  let c0_i32_144 : BitVec 32 := 0#32
  let v226 : BitVec 1 := Scalar.cmpi .slt v224 c0_i32_144
  let c0_i32_145 : BitVec 32 := 0#32
  let v227 : BitVec 1 := Scalar.cmpi .slt v223 c0_i32_145
  let v228 : BitVec 1 := Scalar.xori v226 v227
  let c0_i32_143 : BitVec 32 := 0#32
  let v225 : BitVec 1 := Scalar.cmpi .ne v224 c0_i32_143
  let v229 : BitVec 1 := Scalar.andi v228 v225
  let v230 : BitVec 32 := Scalar.addi v224 v223
  let v231 : BitVec 32 := Scalar.select v229 v230 v224
  let c128_i32_146 : BitVec 32 := 128#32
  let v232 : BitVec 32 := Scalar.muli v231 c128_i32_146
  let v234 : BitVec 32 := Scalar.addi v233 v232
  ![v234.toNat]
@[reducible] def k1_t2_loop : Scf.Loop 32 :=
  let c0_i32_194 : BitVec 32 := 0#32
  let c64_i32_195 : BitVec 32 := 64#32
  let v315 : BitVec 32 := Scalar.addi c0_i32_194 c64_i32_195
  let c1_i32_196 : BitVec 32 := 1#32
  ⟨c0_i32_194, v315, c1_i32_196⟩

def k1_chk1 (v439 : IVec S16 32) (v441 : IVec S16 32) : Prop :=
  (∀ a x, ((![v441, v439] : Fin 2 → IVec S16 32) a x).toNat < S128x128.size a)
theorem k1_idx1_inb : ∀ (v439 : IVec S16 32) (v441 : IVec S16 32) (k1_hw1 : k1_chk1 v439 v441), ∀ a x, ((![v441, v439] : Fin 2 → IVec S16 32) a x).toNat < S128x128.size a := fun v439 v441 k1_hw1 => k1_hw1
def k1_off3 (k1_t2 : Fin k1_t2_loop.trips) : Fin 2 → Nat :=
  let c0_i32_194 : BitVec 32 := 0#32
  let c1_i32_196 : BitVec 32 := 1#32
  let arg14 : BitVec 32 := Scf.iv c0_i32_194 c1_i32_196 k1_t2
  let c0_i32_277 : BitVec 32 := 0#32
  ![arg14.toNat, 0]

def k1_chk2 (v439 : IVec S16 32) (v449 : IVec S16 32) : Prop :=
  (∀ a x, ((![v449, v439] : Fin 2 → IVec S16 32) a x).toNat < S128x128.size a)
theorem k1_idx2_inb : ∀ (v439 : IVec S16 32) (v449 : IVec S16 32) (k1_hw2 : k1_chk2 v439 v449), ∀ a x, ((![v449, v439] : Fin 2 → IVec S16 32) a x).toNat < S128x128.size a := fun v439 v449 k1_hw2 => k1_hw2
def k1_off4 (k1_t2 : Fin k1_t2_loop.trips) : Fin 2 → Nat :=
  let c0_i32_194 : BitVec 32 := 0#32
  let c1_i32_196 : BitVec 32 := 1#32
  let arg14 : BitVec 32 := Scf.iv c0_i32_194 c1_i32_196 k1_t2
  let c0_i32_280 : BitVec 32 := 0#32
  ![arg14.toNat, 0]

def k1_chk3 (v439 : IVec S16 32) (v457 : IVec S16 32) : Prop :=
  (∀ a x, ((![v457, v439] : Fin 2 → IVec S16 32) a x).toNat < S128x128.size a)
theorem k1_idx3_inb : ∀ (v439 : IVec S16 32) (v457 : IVec S16 32) (k1_hw3 : k1_chk3 v439 v457), ∀ a x, ((![v457, v439] : Fin 2 → IVec S16 32) a x).toNat < S128x128.size a := fun v439 v457 k1_hw3 => k1_hw3
def k1_off5 (k1_t2 : Fin k1_t2_loop.trips) : Fin 2 → Nat :=
  let c0_i32_194 : BitVec 32 := 0#32
  let c1_i32_196 : BitVec 32 := 1#32
  let arg14 : BitVec 32 := Scf.iv c0_i32_194 c1_i32_196 k1_t2
  let c0_i32_283 : BitVec 32 := 0#32
  ![arg14.toNat, 0]

def k1_chk4 (v439 : IVec S16 32) (v465 : IVec S16 32) : Prop :=
  (∀ a x, ((![v465, v439] : Fin 2 → IVec S16 32) a x).toNat < S128x128.size a)
theorem k1_idx4_inb : ∀ (v439 : IVec S16 32) (v465 : IVec S16 32) (k1_hw4 : k1_chk4 v439 v465), ∀ a x, ((![v465, v439] : Fin 2 → IVec S16 32) a x).toNat < S128x128.size a := fun v439 v465 k1_hw4 => k1_hw4
def k1_off6 (k1_t2 : Fin k1_t2_loop.trips) : Fin 2 → Nat :=
  let c0_i32_194 : BitVec 32 := 0#32
  let c1_i32_196 : BitVec 32 := 1#32
  let arg14 : BitVec 32 := Scf.iv c0_i32_194 c1_i32_196 k1_t2
  let c0_i32_286 : BitVec 32 := 0#32
  ![arg14.toNat, 0]

def k1_chk5 (v439 : IVec S16 32) (v473 : IVec S16 32) : Prop :=
  (∀ a x, ((![v473, v439] : Fin 2 → IVec S16 32) a x).toNat < S128x128.size a)
theorem k1_idx5_inb : ∀ (v439 : IVec S16 32) (v473 : IVec S16 32) (k1_hw5 : k1_chk5 v439 v473), ∀ a x, ((![v473, v439] : Fin 2 → IVec S16 32) a x).toNat < S128x128.size a := fun v439 v473 k1_hw5 => k1_hw5
def k1_off7 (k1_t2 : Fin k1_t2_loop.trips) : Fin 2 → Nat :=
  let c0_i32_194 : BitVec 32 := 0#32
  let c1_i32_196 : BitVec 32 := 1#32
  let arg14 : BitVec 32 := Scf.iv c0_i32_194 c1_i32_196 k1_t2
  let c0_i32_290 : BitVec 32 := 0#32
  ![arg14.toNat, 0]

def k1_chk6 (v439 : IVec S16 32) (v481 : IVec S16 32) : Prop :=
  (∀ a x, ((![v481, v439] : Fin 2 → IVec S16 32) a x).toNat < S128x128.size a)
theorem k1_idx6_inb : ∀ (v439 : IVec S16 32) (v481 : IVec S16 32) (k1_hw6 : k1_chk6 v439 v481), ∀ a x, ((![v481, v439] : Fin 2 → IVec S16 32) a x).toNat < S128x128.size a := fun v439 v481 k1_hw6 => k1_hw6
def k1_off8 (k1_t2 : Fin k1_t2_loop.trips) : Fin 2 → Nat :=
  let c0_i32_194 : BitVec 32 := 0#32
  let c1_i32_196 : BitVec 32 := 1#32
  let arg14 : BitVec 32 := Scf.iv c0_i32_194 c1_i32_196 k1_t2
  let c0_i32_293 : BitVec 32 := 0#32
  ![arg14.toNat, 0]

def k1_chk7 (v439 : IVec S16 32) (v489 : IVec S16 32) : Prop :=
  (∀ a x, ((![v489, v439] : Fin 2 → IVec S16 32) a x).toNat < S128x128.size a)
theorem k1_idx7_inb : ∀ (v439 : IVec S16 32) (v489 : IVec S16 32) (k1_hw7 : k1_chk7 v439 v489), ∀ a x, ((![v489, v439] : Fin 2 → IVec S16 32) a x).toNat < S128x128.size a := fun v439 v489 k1_hw7 => k1_hw7
def k1_off9 (k1_t2 : Fin k1_t2_loop.trips) : Fin 2 → Nat :=
  let c0_i32_194 : BitVec 32 := 0#32
  let c1_i32_196 : BitVec 32 := 1#32
  let arg14 : BitVec 32 := Scf.iv c0_i32_194 c1_i32_196 k1_t2
  let c0_i32_296 : BitVec 32 := 0#32
  ![arg14.toNat, 0]

def k1_chk8 (v439 : IVec S16 32) (v497 : IVec S16 32) : Prop :=
  (∀ a x, ((![v497, v439] : Fin 2 → IVec S16 32) a x).toNat < S128x128.size a)
theorem k1_idx8_inb : ∀ (v439 : IVec S16 32) (v497 : IVec S16 32) (k1_hw8 : k1_chk8 v439 v497), ∀ a x, ((![v497, v439] : Fin 2 → IVec S16 32) a x).toNat < S128x128.size a := fun v439 v497 k1_hw8 => k1_hw8
def k1_off10 (k1_t2 : Fin k1_t2_loop.trips) : Fin 2 → Nat :=
  let c0_i32_194 : BitVec 32 := 0#32
  let c1_i32_196 : BitVec 32 := 1#32
  let arg14 : BitVec 32 := Scf.iv c0_i32_194 c1_i32_196 k1_t2
  let c0_i32_299 : BitVec 32 := 0#32
  ![arg14.toNat, 0]
def k1_off11 (i : grid1.Coords) (k1_t1 : Fin k1_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c200_i32 : BitVec 32 := 200#32
  let v2 : BitVec 32 := Scalar.muli v1 c200_i32
  let c0_i32_40 : BitVec 32 := 0#32
  let c1_i32_41 : BitVec 32 := 1#32
  let arg12 : BitVec 32 := Scf.iv c0_i32_40 c1_i32_41 k1_t1
  let c2_i32_124 : BitVec 32 := 2#32
  let v197 : BitVec 32 := Scalar.muli arg12 c2_i32_124
  let v284 : BitVec 32 := Scalar.addi v2 v197
  let c0_i32_178 : BitVec 32 := 0#32
  let v286 : BitVec 1 := Scalar.cmpi .sgt v284 c0_i32_178
  let v287 : BitVec 32 := Scalar.extui v286
  let c0_i32_179 : BitVec 32 := 0#32
  let v288 : BitVec 1 := Scalar.cmpi .slt v284 c0_i32_179
  let v289 : BitVec 32 := Scalar.extui v288
  let v290 : BitVec 32 := Scalar.subi v287 v289
  let c128_i32_177 : BitVec 32 := 128#32
  let c0_i32_180 : BitVec 32 := 0#32
  let v291 : BitVec 1 := Scalar.cmpi .sgt c128_i32_177 c0_i32_180
  let v292 : BitVec 32 := Scalar.extui v291
  let c0_i32_181 : BitVec 32 := 0#32
  let v293 : BitVec 1 := Scalar.cmpi .slt c128_i32_177 c0_i32_181
  let v294 : BitVec 32 := Scalar.extui v293
  let v295 : BitVec 32 := Scalar.subi v292 v294
  let v296 : BitVec 1 := Scalar.cmpi .ne v290 v295
  let v297 : BitVec 32 := Scalar.remsi v284 c128_i32_177
  let c0_i32_182 : BitVec 32 := 0#32
  let v298 : BitVec 1 := Scalar.cmpi .ne v297 c0_i32_182
  let v299 : BitVec 1 := Scalar.andi v296 v298
  let v285 : BitVec 32 := Scalar.divsi v284 c128_i32_177
  let c1_i32_183 : BitVec 32 := 1#32
  let v300 : BitVec 32 := Scalar.subi v285 c1_i32_183
  let v301 : BitVec 32 := Scalar.select v299 v300 v285
  let c0_i32_273_r1 : BitVec 32 := 0#32
  let c0_i32_274_r1 : BitVec 32 := 0#32
  ![v301.toNat, 0, 0]
def k1_off12 (i : grid1.Coords) (k1_t1 : Fin k1_t1_loop.trips) : Fin 2 → Nat :=
  let c0_i32_275_r1 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c200_i32 : BitVec 32 := 200#32
  let v2 : BitVec 32 := Scalar.muli v1 c200_i32
  let c0_i32_40 : BitVec 32 := 0#32
  let c1_i32_41 : BitVec 32 := 1#32
  let arg12 : BitVec 32 := Scf.iv c0_i32_40 c1_i32_41 k1_t1
  let c2_i32_124 : BitVec 32 := 2#32
  let v197 : BitVec 32 := Scalar.muli arg12 c2_i32_124
  let v284 : BitVec 32 := Scalar.addi v2 v197
  let c128_i32_184 : BitVec 32 := 128#32
  let c0_i32_185 : BitVec 32 := 0#32
  let v302 : BitVec 1 := Scalar.cmpi .eq c128_i32_184 c0_i32_185
  let c1_i32_186 : BitVec 32 := 1#32
  let v303 : BitVec 32 := Scalar.select v302 c1_i32_186 c128_i32_184
  let v304 : BitVec 32 := Scalar.remsi v284 v303
  let c0_i32_188 : BitVec 32 := 0#32
  let v306 : BitVec 1 := Scalar.cmpi .slt v304 c0_i32_188
  let c0_i32_189 : BitVec 32 := 0#32
  let v307 : BitVec 1 := Scalar.cmpi .slt v303 c0_i32_189
  let v308 : BitVec 1 := Scalar.xori v306 v307
  let c0_i32_187 : BitVec 32 := 0#32
  let v305 : BitVec 1 := Scalar.cmpi .ne v304 c0_i32_187
  let v309 : BitVec 1 := Scalar.andi v308 v305
  let v310 : BitVec 32 := Scalar.addi v304 v303
  let v311 : BitVec 32 := Scalar.select v309 v310 v304
  let c128_i32_190 : BitVec 32 := 128#32
  let v312 : BitVec 32 := Scalar.muli v311 c128_i32_190
  ![0, v312.toNat]
def k1_off13 (i : grid1.Coords) (k1_t1 : Fin k1_t1_loop.trips) (c1_i32_206 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c200_i32 : BitVec 32 := 200#32
  let v2 : BitVec 32 := Scalar.muli v1 c200_i32
  let c0_i32_40 : BitVec 32 := 0#32
  let c1_i32_41 : BitVec 32 := 1#32
  let arg12 : BitVec 32 := Scf.iv c0_i32_40 c1_i32_41 k1_t1
  let c2_i32_124 : BitVec 32 := 2#32
  let v197 : BitVec 32 := Scalar.muli arg12 c2_i32_124
  let c1_i32_198 : BitVec 32 := 1#32
  let v317 : BitVec 32 := Scalar.addi v197 c1_i32_198
  let v323 : BitVec 32 := Scalar.addi v317 c1_i32_206
  let v324 : BitVec 32 := Scalar.addi v2 v323
  let c0_i32_208 : BitVec 32 := 0#32
  let v326 : BitVec 1 := Scalar.cmpi .sgt v324 c0_i32_208
  let v327 : BitVec 32 := Scalar.extui v326
  let c0_i32_209 : BitVec 32 := 0#32
  let v328 : BitVec 1 := Scalar.cmpi .slt v324 c0_i32_209
  let v329 : BitVec 32 := Scalar.extui v328
  let v330 : BitVec 32 := Scalar.subi v327 v329
  let c128_i32_207 : BitVec 32 := 128#32
  let c0_i32_210 : BitVec 32 := 0#32
  let v331 : BitVec 1 := Scalar.cmpi .sgt c128_i32_207 c0_i32_210
  let v332 : BitVec 32 := Scalar.extui v331
  let c0_i32_211 : BitVec 32 := 0#32
  let v333 : BitVec 1 := Scalar.cmpi .slt c128_i32_207 c0_i32_211
  let v334 : BitVec 32 := Scalar.extui v333
  let v335 : BitVec 32 := Scalar.subi v332 v334
  let v336 : BitVec 1 := Scalar.cmpi .ne v330 v335
  let v337 : BitVec 32 := Scalar.remsi v324 c128_i32_207
  let c0_i32_212 : BitVec 32 := 0#32
  let v338 : BitVec 1 := Scalar.cmpi .ne v337 c0_i32_212
  let v339 : BitVec 1 := Scalar.andi v336 v338
  let v325 : BitVec 32 := Scalar.divsi v324 c128_i32_207
  let c1_i32_213 : BitVec 32 := 1#32
  let v340 : BitVec 32 := Scalar.subi v325 c1_i32_213
  let v341 : BitVec 32 := Scalar.select v339 v340 v325
  let c16384_i32_221 : BitVec 32 := 16384#32
  let v353 : BitVec 32 := Scalar.muli v341 c16384_i32_221
  let c128_i32_214 : BitVec 32 := 128#32
  let c0_i32_215 : BitVec 32 := 0#32
  let v342 : BitVec 1 := Scalar.cmpi .eq c128_i32_214 c0_i32_215
  let c1_i32_216 : BitVec 32 := 1#32
  let v343 : BitVec 32 := Scalar.select v342 c1_i32_216 c128_i32_214
  let v344 : BitVec 32 := Scalar.remsi v324 v343
  let c0_i32_218 : BitVec 32 := 0#32
  let v346 : BitVec 1 := Scalar.cmpi .slt v344 c0_i32_218
  let c0_i32_219 : BitVec 32 := 0#32
  let v347 : BitVec 1 := Scalar.cmpi .slt v343 c0_i32_219
  let v348 : BitVec 1 := Scalar.xori v346 v347
  let c0_i32_217 : BitVec 32 := 0#32
  let v345 : BitVec 1 := Scalar.cmpi .ne v344 c0_i32_217
  let v349 : BitVec 1 := Scalar.andi v348 v345
  let v350 : BitVec 32 := Scalar.addi v344 v343
  let v351 : BitVec 32 := Scalar.select v349 v350 v344
  let c128_i32_220 : BitVec 32 := 128#32
  let v352 : BitVec 32 := Scalar.muli v351 c128_i32_220
  let v354 : BitVec 32 := Scalar.addi v353 v352
  ![v354.toNat]
@[reducible] def k1_t3_loop : Scf.Loop 32 :=
  let c0_i32_268 : BitVec 32 := 0#32
  let c64_i32_269 : BitVec 32 := 64#32
  let v435 : BitVec 32 := Scalar.addi c0_i32_268 c64_i32_269
  let c1_i32_270 : BitVec 32 := 1#32
  ⟨c0_i32_268, v435, c1_i32_270⟩

def k1_chk9 (v439 : IVec S16 32) (v441 : IVec S16 32) : Prop :=
  (∀ a x, ((![v441, v439] : Fin 2 → IVec S16 32) a x).toNat < S128x128.size a)
theorem k1_idx9_inb : ∀ (v439 : IVec S16 32) (v441 : IVec S16 32) (k1_hw9 : k1_chk9 v439 v441), ∀ a x, ((![v441, v439] : Fin 2 → IVec S16 32) a x).toNat < S128x128.size a := fun v439 v441 k1_hw9 => k1_hw9
def k1_off14 (k1_t3 : Fin k1_t3_loop.trips) : Fin 2 → Nat :=
  let c0_i32_268 : BitVec 32 := 0#32
  let c1_i32_270 : BitVec 32 := 1#32
  let arg14 : BitVec 32 := Scf.iv c0_i32_268 c1_i32_270 k1_t3
  let c0_i32_277 : BitVec 32 := 0#32
  ![arg14.toNat, 0]

def k1_chk10 (v439 : IVec S16 32) (v449 : IVec S16 32) : Prop :=
  (∀ a x, ((![v449, v439] : Fin 2 → IVec S16 32) a x).toNat < S128x128.size a)
theorem k1_idx10_inb : ∀ (v439 : IVec S16 32) (v449 : IVec S16 32) (k1_hw10 : k1_chk10 v439 v449), ∀ a x, ((![v449, v439] : Fin 2 → IVec S16 32) a x).toNat < S128x128.size a := fun v439 v449 k1_hw10 => k1_hw10
def k1_off15 (k1_t3 : Fin k1_t3_loop.trips) : Fin 2 → Nat :=
  let c0_i32_268 : BitVec 32 := 0#32
  let c1_i32_270 : BitVec 32 := 1#32
  let arg14 : BitVec 32 := Scf.iv c0_i32_268 c1_i32_270 k1_t3
  let c0_i32_280 : BitVec 32 := 0#32
  ![arg14.toNat, 0]

def k1_chk11 (v439 : IVec S16 32) (v457 : IVec S16 32) : Prop :=
  (∀ a x, ((![v457, v439] : Fin 2 → IVec S16 32) a x).toNat < S128x128.size a)
theorem k1_idx11_inb : ∀ (v439 : IVec S16 32) (v457 : IVec S16 32) (k1_hw11 : k1_chk11 v439 v457), ∀ a x, ((![v457, v439] : Fin 2 → IVec S16 32) a x).toNat < S128x128.size a := fun v439 v457 k1_hw11 => k1_hw11
def k1_off16 (k1_t3 : Fin k1_t3_loop.trips) : Fin 2 → Nat :=
  let c0_i32_268 : BitVec 32 := 0#32
  let c1_i32_270 : BitVec 32 := 1#32
  let arg14 : BitVec 32 := Scf.iv c0_i32_268 c1_i32_270 k1_t3
  let c0_i32_283 : BitVec 32 := 0#32
  ![arg14.toNat, 0]

def k1_chk12 (v439 : IVec S16 32) (v465 : IVec S16 32) : Prop :=
  (∀ a x, ((![v465, v439] : Fin 2 → IVec S16 32) a x).toNat < S128x128.size a)
theorem k1_idx12_inb : ∀ (v439 : IVec S16 32) (v465 : IVec S16 32) (k1_hw12 : k1_chk12 v439 v465), ∀ a x, ((![v465, v439] : Fin 2 → IVec S16 32) a x).toNat < S128x128.size a := fun v439 v465 k1_hw12 => k1_hw12
def k1_off17 (k1_t3 : Fin k1_t3_loop.trips) : Fin 2 → Nat :=
  let c0_i32_268 : BitVec 32 := 0#32
  let c1_i32_270 : BitVec 32 := 1#32
  let arg14 : BitVec 32 := Scf.iv c0_i32_268 c1_i32_270 k1_t3
  let c0_i32_286 : BitVec 32 := 0#32
  ![arg14.toNat, 0]

def k1_chk13 (v439 : IVec S16 32) (v473 : IVec S16 32) : Prop :=
  (∀ a x, ((![v473, v439] : Fin 2 → IVec S16 32) a x).toNat < S128x128.size a)
theorem k1_idx13_inb : ∀ (v439 : IVec S16 32) (v473 : IVec S16 32) (k1_hw13 : k1_chk13 v439 v473), ∀ a x, ((![v473, v439] : Fin 2 → IVec S16 32) a x).toNat < S128x128.size a := fun v439 v473 k1_hw13 => k1_hw13
def k1_off18 (k1_t3 : Fin k1_t3_loop.trips) : Fin 2 → Nat :=
  let c0_i32_268 : BitVec 32 := 0#32
  let c1_i32_270 : BitVec 32 := 1#32
  let arg14 : BitVec 32 := Scf.iv c0_i32_268 c1_i32_270 k1_t3
  let c0_i32_290 : BitVec 32 := 0#32
  ![arg14.toNat, 0]

def k1_chk14 (v439 : IVec S16 32) (v481 : IVec S16 32) : Prop :=
  (∀ a x, ((![v481, v439] : Fin 2 → IVec S16 32) a x).toNat < S128x128.size a)
theorem k1_idx14_inb : ∀ (v439 : IVec S16 32) (v481 : IVec S16 32) (k1_hw14 : k1_chk14 v439 v481), ∀ a x, ((![v481, v439] : Fin 2 → IVec S16 32) a x).toNat < S128x128.size a := fun v439 v481 k1_hw14 => k1_hw14
def k1_off19 (k1_t3 : Fin k1_t3_loop.trips) : Fin 2 → Nat :=
  let c0_i32_268 : BitVec 32 := 0#32
  let c1_i32_270 : BitVec 32 := 1#32
  let arg14 : BitVec 32 := Scf.iv c0_i32_268 c1_i32_270 k1_t3
  let c0_i32_293 : BitVec 32 := 0#32
  ![arg14.toNat, 0]

def k1_chk15 (v439 : IVec S16 32) (v489 : IVec S16 32) : Prop :=
  (∀ a x, ((![v489, v439] : Fin 2 → IVec S16 32) a x).toNat < S128x128.size a)
theorem k1_idx15_inb : ∀ (v439 : IVec S16 32) (v489 : IVec S16 32) (k1_hw15 : k1_chk15 v439 v489), ∀ a x, ((![v489, v439] : Fin 2 → IVec S16 32) a x).toNat < S128x128.size a := fun v439 v489 k1_hw15 => k1_hw15
def k1_off20 (k1_t3 : Fin k1_t3_loop.trips) : Fin 2 → Nat :=
  let c0_i32_268 : BitVec 32 := 0#32
  let c1_i32_270 : BitVec 32 := 1#32
  let arg14 : BitVec 32 := Scf.iv c0_i32_268 c1_i32_270 k1_t3
  let c0_i32_296 : BitVec 32 := 0#32
  ![arg14.toNat, 0]

def k1_chk16 (v439 : IVec S16 32) (v497 : IVec S16 32) : Prop :=
  (∀ a x, ((![v497, v439] : Fin 2 → IVec S16 32) a x).toNat < S128x128.size a)
theorem k1_idx16_inb : ∀ (v439 : IVec S16 32) (v497 : IVec S16 32) (k1_hw16 : k1_chk16 v439 v497), ∀ a x, ((![v497, v439] : Fin 2 → IVec S16 32) a x).toNat < S128x128.size a := fun v439 v497 k1_hw16 => k1_hw16
def k1_off21 (k1_t3 : Fin k1_t3_loop.trips) : Fin 2 → Nat :=
  let c0_i32_268 : BitVec 32 := 0#32
  let c1_i32_270 : BitVec 32 := 1#32
  let arg14 : BitVec 32 := Scf.iv c0_i32_268 c1_i32_270 k1_t3
  let c0_i32_299 : BitVec 32 := 0#32
  ![arg14.toNat, 0]
def k1_off22 (i : grid1.Coords) (k1_t1 : Fin k1_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c200_i32 : BitVec 32 := 200#32
  let v2 : BitVec 32 := Scalar.muli v1 c200_i32
  let c0_i32_40 : BitVec 32 := 0#32
  let c1_i32_41 : BitVec 32 := 1#32
  let arg12 : BitVec 32 := Scf.iv c0_i32_40 c1_i32_41 k1_t1
  let c2_i32_124 : BitVec 32 := 2#32
  let v197 : BitVec 32 := Scalar.muli arg12 c2_i32_124
  let c1_i32_198 : BitVec 32 := 1#32
  let v317 : BitVec 32 := Scalar.addi v197 c1_i32_198
  let v404 : BitVec 32 := Scalar.addi v2 v317
  let c0_i32_252 : BitVec 32 := 0#32
  let v406 : BitVec 1 := Scalar.cmpi .sgt v404 c0_i32_252
  let v407 : BitVec 32 := Scalar.extui v406
  let c0_i32_253 : BitVec 32 := 0#32
  let v408 : BitVec 1 := Scalar.cmpi .slt v404 c0_i32_253
  let v409 : BitVec 32 := Scalar.extui v408
  let v410 : BitVec 32 := Scalar.subi v407 v409
  let c128_i32_251 : BitVec 32 := 128#32
  let c0_i32_254 : BitVec 32 := 0#32
  let v411 : BitVec 1 := Scalar.cmpi .sgt c128_i32_251 c0_i32_254
  let v412 : BitVec 32 := Scalar.extui v411
  let c0_i32_255 : BitVec 32 := 0#32
  let v413 : BitVec 1 := Scalar.cmpi .slt c128_i32_251 c0_i32_255
  let v414 : BitVec 32 := Scalar.extui v413
  let v415 : BitVec 32 := Scalar.subi v412 v414
  let v416 : BitVec 1 := Scalar.cmpi .ne v410 v415
  let v417 : BitVec 32 := Scalar.remsi v404 c128_i32_251
  let c0_i32_256 : BitVec 32 := 0#32
  let v418 : BitVec 1 := Scalar.cmpi .ne v417 c0_i32_256
  let v419 : BitVec 1 := Scalar.andi v416 v418
  let v405 : BitVec 32 := Scalar.divsi v404 c128_i32_251
  let c1_i32_257 : BitVec 32 := 1#32
  let v420 : BitVec 32 := Scalar.subi v405 c1_i32_257
  let v421 : BitVec 32 := Scalar.select v419 v420 v405
  let c0_i32_273_r2 : BitVec 32 := 0#32
  let c0_i32_274_r2 : BitVec 32 := 0#32
  ![v421.toNat, 0, 0]
def k1_off23 (i : grid1.Coords) (k1_t1 : Fin k1_t1_loop.trips) : Fin 2 → Nat :=
  let c0_i32_275_r2 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c200_i32 : BitVec 32 := 200#32
  let v2 : BitVec 32 := Scalar.muli v1 c200_i32
  let c0_i32_40 : BitVec 32 := 0#32
  let c1_i32_41 : BitVec 32 := 1#32
  let arg12 : BitVec 32 := Scf.iv c0_i32_40 c1_i32_41 k1_t1
  let c2_i32_124 : BitVec 32 := 2#32
  let v197 : BitVec 32 := Scalar.muli arg12 c2_i32_124
  let c1_i32_198 : BitVec 32 := 1#32
  let v317 : BitVec 32 := Scalar.addi v197 c1_i32_198
  let v404 : BitVec 32 := Scalar.addi v2 v317
  let c128_i32_258 : BitVec 32 := 128#32
  let c0_i32_259 : BitVec 32 := 0#32
  let v422 : BitVec 1 := Scalar.cmpi .eq c128_i32_258 c0_i32_259
  let c1_i32_260 : BitVec 32 := 1#32
  let v423 : BitVec 32 := Scalar.select v422 c1_i32_260 c128_i32_258
  let v424 : BitVec 32 := Scalar.remsi v404 v423
  let c0_i32_262 : BitVec 32 := 0#32
  let v426 : BitVec 1 := Scalar.cmpi .slt v424 c0_i32_262
  let c0_i32_263 : BitVec 32 := 0#32
  let v427 : BitVec 1 := Scalar.cmpi .slt v423 c0_i32_263
  let v428 : BitVec 1 := Scalar.xori v426 v427
  let c0_i32_261 : BitVec 32 := 0#32
  let v425 : BitVec 1 := Scalar.cmpi .ne v424 c0_i32_261
  let v429 : BitVec 1 := Scalar.andi v428 v425
  let v430 : BitVec 32 := Scalar.addi v424 v423
  let v431 : BitVec 32 := Scalar.select v429 v430 v424
  let c128_i32_264 : BitVec 32 := 128#32
  let v432 : BitVec 32 := Scalar.muli v431 c128_i32_264
  ![0, v432.toNat]
@[reducible] def k1_t4_loop : Scf.Loop 32 :=
  let c0_i32_92 : BitVec 32 := 0#32
  let c64_i32 : BitVec 32 := 64#32
  let v157 : BitVec 32 := Scalar.addi c0_i32_92 c64_i32
  let c1_i32_93 : BitVec 32 := 1#32
  ⟨c0_i32_92, v157, c1_i32_93⟩

def k1_chk17 (v199 : IVec S16 32) (v201 : IVec S16 32) : Prop :=
  (∀ a x, ((![v201, v199] : Fin 2 → IVec S16 32) a x).toNat < S128x128.size a)
theorem k1_idx17_inb : ∀ (v199 : IVec S16 32) (v201 : IVec S16 32) (k1_hw17 : k1_chk17 v199 v201), ∀ a x, ((![v201, v199] : Fin 2 → IVec S16 32) a x).toNat < S128x128.size a := fun v199 v201 k1_hw17 => k1_hw17
def k1_off24 (k1_t4 : Fin k1_t4_loop.trips) : Fin 2 → Nat :=
  let c0_i32_92 : BitVec 32 := 0#32
  let c1_i32_93 : BitVec 32 := 1#32
  let arg12 : BitVec 32 := Scf.iv c0_i32_92 c1_i32_93 k1_t4
  let c0_i32_128 : BitVec 32 := 0#32
  ![arg12.toNat, 0]

def k1_chk18 (v199 : IVec S16 32) (v209 : IVec S16 32) : Prop :=
  (∀ a x, ((![v209, v199] : Fin 2 → IVec S16 32) a x).toNat < S128x128.size a)
theorem k1_idx18_inb : ∀ (v199 : IVec S16 32) (v209 : IVec S16 32) (k1_hw18 : k1_chk18 v199 v209), ∀ a x, ((![v209, v199] : Fin 2 → IVec S16 32) a x).toNat < S128x128.size a := fun v199 v209 k1_hw18 => k1_hw18
def k1_off25 (k1_t4 : Fin k1_t4_loop.trips) : Fin 2 → Nat :=
  let c0_i32_92 : BitVec 32 := 0#32
  let c1_i32_93 : BitVec 32 := 1#32
  let arg12 : BitVec 32 := Scf.iv c0_i32_92 c1_i32_93 k1_t4
  let c0_i32_131 : BitVec 32 := 0#32
  ![arg12.toNat, 0]

def k1_chk19 (v199 : IVec S16 32) (v217 : IVec S16 32) : Prop :=
  (∀ a x, ((![v217, v199] : Fin 2 → IVec S16 32) a x).toNat < S128x128.size a)
theorem k1_idx19_inb : ∀ (v199 : IVec S16 32) (v217 : IVec S16 32) (k1_hw19 : k1_chk19 v199 v217), ∀ a x, ((![v217, v199] : Fin 2 → IVec S16 32) a x).toNat < S128x128.size a := fun v199 v217 k1_hw19 => k1_hw19
def k1_off26 (k1_t4 : Fin k1_t4_loop.trips) : Fin 2 → Nat :=
  let c0_i32_92 : BitVec 32 := 0#32
  let c1_i32_93 : BitVec 32 := 1#32
  let arg12 : BitVec 32 := Scf.iv c0_i32_92 c1_i32_93 k1_t4
  let c0_i32_134 : BitVec 32 := 0#32
  ![arg12.toNat, 0]

def k1_chk20 (v199 : IVec S16 32) (v225 : IVec S16 32) : Prop :=
  (∀ a x, ((![v225, v199] : Fin 2 → IVec S16 32) a x).toNat < S128x128.size a)
theorem k1_idx20_inb : ∀ (v199 : IVec S16 32) (v225 : IVec S16 32) (k1_hw20 : k1_chk20 v199 v225), ∀ a x, ((![v225, v199] : Fin 2 → IVec S16 32) a x).toNat < S128x128.size a := fun v199 v225 k1_hw20 => k1_hw20
def k1_off27 (k1_t4 : Fin k1_t4_loop.trips) : Fin 2 → Nat :=
  let c0_i32_92 : BitVec 32 := 0#32
  let c1_i32_93 : BitVec 32 := 1#32
  let arg12 : BitVec 32 := Scf.iv c0_i32_92 c1_i32_93 k1_t4
  let c0_i32_137 : BitVec 32 := 0#32
  ![arg12.toNat, 0]

def k1_chk21 (v199 : IVec S16 32) (v233 : IVec S16 32) : Prop :=
  (∀ a x, ((![v233, v199] : Fin 2 → IVec S16 32) a x).toNat < S128x128.size a)
theorem k1_idx21_inb : ∀ (v199 : IVec S16 32) (v233 : IVec S16 32) (k1_hw21 : k1_chk21 v199 v233), ∀ a x, ((![v233, v199] : Fin 2 → IVec S16 32) a x).toNat < S128x128.size a := fun v199 v233 k1_hw21 => k1_hw21
def k1_off28 (k1_t4 : Fin k1_t4_loop.trips) : Fin 2 → Nat :=
  let c0_i32_92 : BitVec 32 := 0#32
  let c1_i32_93 : BitVec 32 := 1#32
  let arg12 : BitVec 32 := Scf.iv c0_i32_92 c1_i32_93 k1_t4
  let c0_i32_141 : BitVec 32 := 0#32
  ![arg12.toNat, 0]

def k1_chk22 (v199 : IVec S16 32) (v241 : IVec S16 32) : Prop :=
  (∀ a x, ((![v241, v199] : Fin 2 → IVec S16 32) a x).toNat < S128x128.size a)
theorem k1_idx22_inb : ∀ (v199 : IVec S16 32) (v241 : IVec S16 32) (k1_hw22 : k1_chk22 v199 v241), ∀ a x, ((![v241, v199] : Fin 2 → IVec S16 32) a x).toNat < S128x128.size a := fun v199 v241 k1_hw22 => k1_hw22
def k1_off29 (k1_t4 : Fin k1_t4_loop.trips) : Fin 2 → Nat :=
  let c0_i32_92 : BitVec 32 := 0#32
  let c1_i32_93 : BitVec 32 := 1#32
  let arg12 : BitVec 32 := Scf.iv c0_i32_92 c1_i32_93 k1_t4
  let c0_i32_144 : BitVec 32 := 0#32
  ![arg12.toNat, 0]

def k1_chk23 (v199 : IVec S16 32) (v249 : IVec S16 32) : Prop :=
  (∀ a x, ((![v249, v199] : Fin 2 → IVec S16 32) a x).toNat < S128x128.size a)
theorem k1_idx23_inb : ∀ (v199 : IVec S16 32) (v249 : IVec S16 32) (k1_hw23 : k1_chk23 v199 v249), ∀ a x, ((![v249, v199] : Fin 2 → IVec S16 32) a x).toNat < S128x128.size a := fun v199 v249 k1_hw23 => k1_hw23
def k1_off30 (k1_t4 : Fin k1_t4_loop.trips) : Fin 2 → Nat :=
  let c0_i32_92 : BitVec 32 := 0#32
  let c1_i32_93 : BitVec 32 := 1#32
  let arg12 : BitVec 32 := Scf.iv c0_i32_92 c1_i32_93 k1_t4
  let c0_i32_147 : BitVec 32 := 0#32
  ![arg12.toNat, 0]

def k1_chk24 (v199 : IVec S16 32) (v257 : IVec S16 32) : Prop :=
  (∀ a x, ((![v257, v199] : Fin 2 → IVec S16 32) a x).toNat < S128x128.size a)
theorem k1_idx24_inb : ∀ (v199 : IVec S16 32) (v257 : IVec S16 32) (k1_hw24 : k1_chk24 v199 v257), ∀ a x, ((![v257, v199] : Fin 2 → IVec S16 32) a x).toNat < S128x128.size a := fun v199 v257 k1_hw24 => k1_hw24
def k1_off31 (k1_t4 : Fin k1_t4_loop.trips) : Fin 2 → Nat :=
  let c0_i32_92 : BitVec 32 := 0#32
  let c1_i32_93 : BitVec 32 := 1#32
  let arg12 : BitVec 32 := Scf.iv c0_i32_92 c1_i32_93 k1_t4
  let c0_i32_150 : BitVec 32 := 0#32
  ![arg12.toNat, 0]
def k1_off32 (i : grid1.Coords) (c198_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c200_i32 : BitVec 32 := 200#32
  let v2 : BitVec 32 := Scalar.muli v1 c200_i32
  let v126 : BitVec 32 := Scalar.addi v2 c198_i32
  let c0_i32_76 : BitVec 32 := 0#32
  let v128 : BitVec 1 := Scalar.cmpi .sgt v126 c0_i32_76
  let v129 : BitVec 32 := Scalar.extui v128
  let c0_i32_77 : BitVec 32 := 0#32
  let v130 : BitVec 1 := Scalar.cmpi .slt v126 c0_i32_77
  let v131 : BitVec 32 := Scalar.extui v130
  let v132 : BitVec 32 := Scalar.subi v129 v131
  let c128_i32_75 : BitVec 32 := 128#32
  let c0_i32_78 : BitVec 32 := 0#32
  let v133 : BitVec 1 := Scalar.cmpi .sgt c128_i32_75 c0_i32_78
  let v134 : BitVec 32 := Scalar.extui v133
  let c0_i32_79 : BitVec 32 := 0#32
  let v135 : BitVec 1 := Scalar.cmpi .slt c128_i32_75 c0_i32_79
  let v136 : BitVec 32 := Scalar.extui v135
  let v137 : BitVec 32 := Scalar.subi v134 v136
  let v138 : BitVec 1 := Scalar.cmpi .ne v132 v137
  let v139 : BitVec 32 := Scalar.remsi v126 c128_i32_75
  let c0_i32_80 : BitVec 32 := 0#32
  let v140 : BitVec 1 := Scalar.cmpi .ne v139 c0_i32_80
  let v141 : BitVec 1 := Scalar.andi v138 v140
  let v127 : BitVec 32 := Scalar.divsi v126 c128_i32_75
  let c1_i32_81 : BitVec 32 := 1#32
  let v142 : BitVec 32 := Scalar.subi v127 c1_i32_81
  let v143 : BitVec 32 := Scalar.select v141 v142 v127
  let c0_i32_124_r3 : BitVec 32 := 0#32
  let c0_i32_125_r3 : BitVec 32 := 0#32
  ![v143.toNat, 0, 0]
def k1_off33 (i : grid1.Coords) (c198_i32 : BitVec 32) : Fin 2 → Nat :=
  let c0_i32_126_r3 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c200_i32 : BitVec 32 := 200#32
  let v2 : BitVec 32 := Scalar.muli v1 c200_i32
  let v126 : BitVec 32 := Scalar.addi v2 c198_i32
  let c128_i32_82 : BitVec 32 := 128#32
  let c0_i32_83 : BitVec 32 := 0#32
  let v144 : BitVec 1 := Scalar.cmpi .eq c128_i32_82 c0_i32_83
  let c1_i32_84 : BitVec 32 := 1#32
  let v145 : BitVec 32 := Scalar.select v144 c1_i32_84 c128_i32_82
  let v146 : BitVec 32 := Scalar.remsi v126 v145
  let c0_i32_86 : BitVec 32 := 0#32
  let v148 : BitVec 1 := Scalar.cmpi .slt v146 c0_i32_86
  let c0_i32_87 : BitVec 32 := 0#32
  let v149 : BitVec 1 := Scalar.cmpi .slt v145 c0_i32_87
  let v150 : BitVec 1 := Scalar.xori v148 v149
  let c0_i32_85 : BitVec 32 := 0#32
  let v147 : BitVec 1 := Scalar.cmpi .ne v146 c0_i32_85
  let v151 : BitVec 1 := Scalar.andi v150 v147
  let v152 : BitVec 32 := Scalar.addi v146 v145
  let v153 : BitVec 32 := Scalar.select v151 v152 v146
  let c128_i32_88 : BitVec 32 := 128#32
  let v154 : BitVec 32 := Scalar.muli v153 c128_i32_88
  ![0, v154.toNat]
@[reducible] def k1_t5_loop : Scf.Loop 32 :=
  let c0_i32_120 : BitVec 32 := 0#32
  let c64_i32_121 : BitVec 32 := 64#32
  let v195 : BitVec 32 := Scalar.addi c0_i32_120 c64_i32_121
  let c1_i32_122 : BitVec 32 := 1#32
  ⟨c0_i32_120, v195, c1_i32_122⟩

def k1_chk25 (v199 : IVec S16 32) (v201 : IVec S16 32) : Prop :=
  (∀ a x, ((![v201, v199] : Fin 2 → IVec S16 32) a x).toNat < S128x128.size a)
theorem k1_idx25_inb : ∀ (v199 : IVec S16 32) (v201 : IVec S16 32) (k1_hw25 : k1_chk25 v199 v201), ∀ a x, ((![v201, v199] : Fin 2 → IVec S16 32) a x).toNat < S128x128.size a := fun v199 v201 k1_hw25 => k1_hw25
def k1_off34 (k1_t5 : Fin k1_t5_loop.trips) : Fin 2 → Nat :=
  let c0_i32_120 : BitVec 32 := 0#32
  let c1_i32_122 : BitVec 32 := 1#32
  let arg12 : BitVec 32 := Scf.iv c0_i32_120 c1_i32_122 k1_t5
  let c0_i32_128 : BitVec 32 := 0#32
  ![arg12.toNat, 0]

def k1_chk26 (v199 : IVec S16 32) (v209 : IVec S16 32) : Prop :=
  (∀ a x, ((![v209, v199] : Fin 2 → IVec S16 32) a x).toNat < S128x128.size a)
theorem k1_idx26_inb : ∀ (v199 : IVec S16 32) (v209 : IVec S16 32) (k1_hw26 : k1_chk26 v199 v209), ∀ a x, ((![v209, v199] : Fin 2 → IVec S16 32) a x).toNat < S128x128.size a := fun v199 v209 k1_hw26 => k1_hw26
def k1_off35 (k1_t5 : Fin k1_t5_loop.trips) : Fin 2 → Nat :=
  let c0_i32_120 : BitVec 32 := 0#32
  let c1_i32_122 : BitVec 32 := 1#32
  let arg12 : BitVec 32 := Scf.iv c0_i32_120 c1_i32_122 k1_t5
  let c0_i32_131 : BitVec 32 := 0#32
  ![arg12.toNat, 0]

def k1_chk27 (v199 : IVec S16 32) (v217 : IVec S16 32) : Prop :=
  (∀ a x, ((![v217, v199] : Fin 2 → IVec S16 32) a x).toNat < S128x128.size a)
theorem k1_idx27_inb : ∀ (v199 : IVec S16 32) (v217 : IVec S16 32) (k1_hw27 : k1_chk27 v199 v217), ∀ a x, ((![v217, v199] : Fin 2 → IVec S16 32) a x).toNat < S128x128.size a := fun v199 v217 k1_hw27 => k1_hw27
def k1_off36 (k1_t5 : Fin k1_t5_loop.trips) : Fin 2 → Nat :=
  let c0_i32_120 : BitVec 32 := 0#32
  let c1_i32_122 : BitVec 32 := 1#32
  let arg12 : BitVec 32 := Scf.iv c0_i32_120 c1_i32_122 k1_t5
  let c0_i32_134 : BitVec 32 := 0#32
  ![arg12.toNat, 0]

def k1_chk28 (v199 : IVec S16 32) (v225 : IVec S16 32) : Prop :=
  (∀ a x, ((![v225, v199] : Fin 2 → IVec S16 32) a x).toNat < S128x128.size a)
theorem k1_idx28_inb : ∀ (v199 : IVec S16 32) (v225 : IVec S16 32) (k1_hw28 : k1_chk28 v199 v225), ∀ a x, ((![v225, v199] : Fin 2 → IVec S16 32) a x).toNat < S128x128.size a := fun v199 v225 k1_hw28 => k1_hw28
def k1_off37 (k1_t5 : Fin k1_t5_loop.trips) : Fin 2 → Nat :=
  let c0_i32_120 : BitVec 32 := 0#32
  let c1_i32_122 : BitVec 32 := 1#32
  let arg12 : BitVec 32 := Scf.iv c0_i32_120 c1_i32_122 k1_t5
  let c0_i32_137 : BitVec 32 := 0#32
  ![arg12.toNat, 0]

def k1_chk29 (v199 : IVec S16 32) (v233 : IVec S16 32) : Prop :=
  (∀ a x, ((![v233, v199] : Fin 2 → IVec S16 32) a x).toNat < S128x128.size a)
theorem k1_idx29_inb : ∀ (v199 : IVec S16 32) (v233 : IVec S16 32) (k1_hw29 : k1_chk29 v199 v233), ∀ a x, ((![v233, v199] : Fin 2 → IVec S16 32) a x).toNat < S128x128.size a := fun v199 v233 k1_hw29 => k1_hw29
def k1_off38 (k1_t5 : Fin k1_t5_loop.trips) : Fin 2 → Nat :=
  let c0_i32_120 : BitVec 32 := 0#32
  let c1_i32_122 : BitVec 32 := 1#32
  let arg12 : BitVec 32 := Scf.iv c0_i32_120 c1_i32_122 k1_t5
  let c0_i32_141 : BitVec 32 := 0#32
  ![arg12.toNat, 0]

def k1_chk30 (v199 : IVec S16 32) (v241 : IVec S16 32) : Prop :=
  (∀ a x, ((![v241, v199] : Fin 2 → IVec S16 32) a x).toNat < S128x128.size a)
theorem k1_idx30_inb : ∀ (v199 : IVec S16 32) (v241 : IVec S16 32) (k1_hw30 : k1_chk30 v199 v241), ∀ a x, ((![v241, v199] : Fin 2 → IVec S16 32) a x).toNat < S128x128.size a := fun v199 v241 k1_hw30 => k1_hw30
def k1_off39 (k1_t5 : Fin k1_t5_loop.trips) : Fin 2 → Nat :=
  let c0_i32_120 : BitVec 32 := 0#32
  let c1_i32_122 : BitVec 32 := 1#32
  let arg12 : BitVec 32 := Scf.iv c0_i32_120 c1_i32_122 k1_t5
  let c0_i32_144 : BitVec 32 := 0#32
  ![arg12.toNat, 0]

def k1_chk31 (v199 : IVec S16 32) (v249 : IVec S16 32) : Prop :=
  (∀ a x, ((![v249, v199] : Fin 2 → IVec S16 32) a x).toNat < S128x128.size a)
theorem k1_idx31_inb : ∀ (v199 : IVec S16 32) (v249 : IVec S16 32) (k1_hw31 : k1_chk31 v199 v249), ∀ a x, ((![v249, v199] : Fin 2 → IVec S16 32) a x).toNat < S128x128.size a := fun v199 v249 k1_hw31 => k1_hw31
def k1_off40 (k1_t5 : Fin k1_t5_loop.trips) : Fin 2 → Nat :=
  let c0_i32_120 : BitVec 32 := 0#32
  let c1_i32_122 : BitVec 32 := 1#32
  let arg12 : BitVec 32 := Scf.iv c0_i32_120 c1_i32_122 k1_t5
  let c0_i32_147 : BitVec 32 := 0#32
  ![arg12.toNat, 0]

def k1_chk32 (v199 : IVec S16 32) (v257 : IVec S16 32) : Prop :=
  (∀ a x, ((![v257, v199] : Fin 2 → IVec S16 32) a x).toNat < S128x128.size a)
theorem k1_idx32_inb : ∀ (v199 : IVec S16 32) (v257 : IVec S16 32) (k1_hw32 : k1_chk32 v199 v257), ∀ a x, ((![v257, v199] : Fin 2 → IVec S16 32) a x).toNat < S128x128.size a := fun v199 v257 k1_hw32 => k1_hw32
def k1_off41 (k1_t5 : Fin k1_t5_loop.trips) : Fin 2 → Nat :=
  let c0_i32_120 : BitVec 32 := 0#32
  let c1_i32_122 : BitVec 32 := 1#32
  let arg12 : BitVec 32 := Scf.iv c0_i32_120 c1_i32_122 k1_t5
  let c0_i32_150 : BitVec 32 := 0#32
  ![arg12.toNat, 0]
abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== ReferenceIdeal.lean ====
abbrev S16384x50 : Shape := ⟨2, ![16384, 50]⟩
abbrev S1000000x64 : Shape := ⟨2, ![1000000, 64]⟩
abbrev S_ : Shape := ⟨0, ![]⟩
abbrev S16384x50x1 : Shape := ⟨3, ![16384, 50, 1]⟩
abbrev S1 : Shape := ⟨1, ![1]⟩
abbrev S1x1x1 : Shape := ⟨3, ![1, 1, 1]⟩
abbrev S16384x50x64 : Shape := ⟨3, ![16384, 50, 64]⟩

abbrev nBuf : Space → Nat
  | .hbm => 25
  | .vmem => 0
  | .smem => 0
  | _ => 0

abbrev bufTy : (tb : Table) → Fin (tcTables nBuf tb) → BufTy
  | .hbm, ⟨0, _⟩ => ⟨S16384x50, .i32⟩
  | .hbm, ⟨1, _⟩ => ⟨S1000000x64, .f32⟩
  | .hbm, ⟨2, _⟩ => ⟨S_, .i32⟩
  | .hbm, ⟨3, _⟩ => ⟨S16384x50, .i32⟩
  | .hbm, ⟨4, _⟩ => ⟨S16384x50, .i1⟩
  | .hbm, ⟨5, _⟩ => ⟨S_, .i32⟩
  | .hbm, ⟨6, _⟩ => ⟨S16384x50, .i32⟩
  | .hbm, ⟨7, _⟩ => ⟨S16384x50, .i32⟩
  | .hbm, ⟨8, _⟩ => ⟨S16384x50, .i32⟩
  | .hbm, ⟨9, _⟩ => ⟨S16384x50x1, .i32⟩
  | .hbm, ⟨10, _⟩ => ⟨S1, .i32⟩
  | .hbm, ⟨11, _⟩ => ⟨S_, .i32⟩
  | .hbm, ⟨12, _⟩ => ⟨S16384x50x1, .i32⟩
  | .hbm, ⟨13, _⟩ => ⟨S16384x50x1, .i1⟩
  | .hbm, ⟨14, _⟩ => ⟨S1x1x1, .i32⟩
  | .hbm, ⟨15, _⟩ => ⟨S16384x50x1, .i32⟩
  | .hbm, ⟨16, _⟩ => ⟨S16384x50x1, .i1⟩
  | .hbm, ⟨17, _⟩ => ⟨S16384x50x1, .i1⟩
  | .hbm, ⟨18, _⟩ => ⟨S_, .i1⟩
  | .hbm, ⟨19, _⟩ => ⟨S16384x50, .i1⟩
  | .hbm, ⟨20, _⟩ => ⟨S16384x50x64, .f32⟩
  | .hbm, ⟨21, _⟩ => ⟨S16384x50x64, .i1⟩
  | .hbm, ⟨22, _⟩ => ⟨S_, .f32⟩
  | .hbm, ⟨23, _⟩ => ⟨S16384x50x64, .f32⟩
  | .hbm, ⟨24, _⟩ => ⟨S16384x50x64, .f32⟩
  | _, _ => ⟨S16384x50, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]
-- ==== Proof.Steps.lean ====
/-
  Steps of a SparseCore tile stated over whole memrefs: a local copy issued from one buffer into another, an indirect
  gather issued from a table into a row buffer, the wait for either. Each step speaks of what a memref reads
  (`owns`), so that a body's proof carries the values it moves and no view arithmetic.
-/
module

public import Idealize.ShloMosaic.Lib.SparseCore.Quiescent
public import Idealize.ShloMosaic.Lib.SparseCore.Ops
public import Idealize.ShloMosaic.Lib.SparseCore.Stream
public import Idealize.ShloMosaic.Lib.SparseCore.Scatter
public import Idealize.ShloMosaic.Lib.Memref
public import Idealize.ShloMosaic.Lib.Tactic

@[expose] public section

noncomputable section

namespace Cert.Proof.Steps

open Idealize.ShloMosaic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix] {F : FTy → Type} {Name : Type} [DecidableEq Name]
variable {U : Type} [URA U] {Lvl : Type} [Preorder Lvl] {Λ : Labels}

local notation "𝕄" => MT nD τ sig Ix (Elt F) Name U Lvl

variable (EC : UEmb Counters (MT nD τ sig Ix (Elt F) Name U Lvl))

/-- Whatever is held beside a transfer in flight can be told to come back with what the transfer delivers. -/
theorem flight_frame (c : Thread nD τ) {sm : SemLoc sig} {ι : Ix} {N : ℕ} {D R : sProp 𝕄} :
    iprop(Transfers.Flight EC c sm ι N D ∗ R) ⊢ (Transfers.Flight EC c sm ι N iprop(D ∗ R) : sProp 𝕄) := by
  unfold Transfers.Flight
  iintro ⟨⟨⟨%T, HT, %hcap, %hpeek⟩, Hcred⟩, HR⟩
  isplitl [HT HR]
  · iexists iprop(T ∗ R)
    isplitl [HT HR]; · isplitl [HT] <;> iassumption
    isplit
    · ipureintro
      intro K
      refine BIBase.Entails.trans ?_ (hcap K)
      iintro ⟨⟨HT, HR⟩, HK⟩
      isplitl [HT]; · iexact HT
      iintro ⟨Hv, HD⟩
      iapply HK
      isplitl [Hv]; · iexact Hv
      isplitl [HD] <;> iassumption
    · ipureintro
      intro K
      refine BIBase.Entails.trans ?_ (hpeek K)
      iintro ⟨⟨HT, HR⟩, HK⟩
      isplitl [HT]; · iexact HT
      iintro HT
      iapply HK
      isplitl [HT] <;> iassumption
  · iexact Hcred

/-- What a memref's own elements hold after a write of all of them is what was written. -/
theorem owns_of_write (c : Thread nD τ) {sp : Space} {s : Shape} {e : EltTy} (m : Memref sig c.2.kind sp s e)
    (f : Buf (Elt F) (m.view.loc c)) (w : s.Idx → Elt F e) :
    ((m.view.loc c ↦[m.view.set]{fullShare} (m.view.write (Elt F) f w Finset.univ)) : sProp 𝕄) ⊢ owns c m fullShare w := by
  unfold owns
  iintro H
  iexists _
  isplitr
  swap; · iexact H
  ipureintro
  exact View.read_write_univ _ _

variable {defs : Defs nD τ sig (Elt F) Λ} (𝒱 : Variants) (c : Thread nD τ) (bd : Option 𝒱.V)
variable {α : Type} {Q : α → sProp (MT nD τ sig Ix (Elt F) Name U Lvl)} {sp sp' : Space} {s : Shape} {e : EltTy}

/-- A copy issued from a buffer of which a region holding the source is owned at some share, into a buffer of which a
    region holding the destination is owned outright: in flight, it brings both regions back, the destination's
    elements written with what the source reads. -/
theorem copy_issue [Infinite Name] [EC.LandsIn (upEmb : UEmb _ 𝕄)]
    {src : Memref sig c.2.kind sp s e} {dst : Memref sig c.2.kind sp' s e} {sm : SemLoc sig}
    {hsrc : src.view.WordExact} {hdst : dst.view.WordExact} {hsem : DmaTarget.Typed (nD := nD) sp sm (.here dst)}
    {k : PUnit → Prog (TpuEff nD τ sig (Elt F) Λ c.2) α} {q : PosShare TreeShare}
    {Ss : Finset (Idx (src.view.loc c))} {fs : Buf (Elt F) (src.view.loc c)}
    {Sd : Finset (Idx (dst.view.loc c))} {fd : Buf (Elt F) (dst.view.loc c)}
    (ι : Ix) (N : ℕ) (hN : dst.view.amount sm = N) (hN0 : 0 < N) (hSs : src.view.set ⊆ Ss) (hSd : dst.view.set ⊆ Sd) :
    iprop((src.view.loc c ↦[Ss]{q} fs) ∗ (dst.view.loc c ↦[Sd]{fullShare} fd) ∗ semVal (c, sm) 0)
      ⊢ iprop((Transfers.Flight EC c sm ι N iprop((dst.view.loc c ↦[Sd]{fullShare} (dst.view.write (Elt F) fd (src.view.read (Elt F) fs) Finset.univ))
                                    ∗ (src.view.loc c ↦[Ss]{q} fs))
              -∗ wp frame (wpE defs 𝒱 c bd) Set.univ (k ⟨⟩) Q)
          -∗ wp frame (wpE defs 𝒱 c bd) Set.univ (.op (.enqueueDma src (.here dst) sm hsrc hdst hsem) k) Q) := by
  iintro ⟨Hs, Hd, Hv⟩ Hk
  ihave Hs' := (pointsTo_split_subset (q := q) (f := fs) hSs).1 $$ Hs
  icases Hs' with ⟨Hs, Hr⟩
  iapply (Transfers.wp_dmaLocal EC 𝒱 c bd ι N hN hN0 hSd) $$ [Hs Hd Hv]
  · isplitl [Hs]; · iexact Hs
    isplitl [Hd] <;> iassumption
  iintro Hf
  iapply Hk
  ihave Hf' := (flight_frame EC c) $$ [Hf Hr]
  · isplitl [Hf]; · iexact Hf
    iexact Hr
  iapply (Transfers.Flight_mono EC c ?_) $$ Hf'
  iintro ⟨⟨Hd, Hs⟩, Hr⟩
  isplitl [Hd]; · iexact Hd
  iapply (pointsTo_split_subset (q := q) (f := fs) hSs).2
  isplitl [Hs] <;> iassumption

/-- The same into a buffer owned through the destination memref: it comes back reading what the source reads. -/
theorem copy_issue_owns [Infinite Name] [EC.LandsIn (upEmb : UEmb _ 𝕄)]
    {src : Memref sig c.2.kind sp s e} {dst : Memref sig c.2.kind sp' s e} {sm : SemLoc sig}
    {hsrc : src.view.WordExact} {hdst : dst.view.WordExact} {hsem : DmaTarget.Typed (nD := nD) sp sm (.here dst)}
    {k : PUnit → Prog (TpuEff nD τ sig (Elt F) Λ c.2) α} {q : PosShare TreeShare}
    {Ss : Finset (Idx (src.view.loc c))} {fs : Buf (Elt F) (src.view.loc c)}
    {Y X : s.Idx → Elt F e}
    (ι : Ix) (N : ℕ) (hN : dst.view.amount sm = N) (hN0 : 0 < N) (hSs : src.view.set ⊆ Ss)
    (hX : src.view.read (Elt F) fs = X) :
    iprop((src.view.loc c ↦[Ss]{q} fs) ∗ owns c dst fullShare Y ∗ semVal (c, sm) 0)
      ⊢ iprop((Transfers.Flight EC c sm ι N iprop(owns c dst fullShare X ∗ (src.view.loc c ↦[Ss]{q} fs))
              -∗ wp frame (wpE defs 𝒱 c bd) Set.univ (k ⟨⟩) Q)
          -∗ wp frame (wpE defs 𝒱 c bd) Set.univ (.op (.enqueueDma src (.here dst) sm hsrc hdst hsem) k) Q) := by
  subst hX
  iintro ⟨Hs, Hd, Hv⟩ Hk
  ihave Hd' := (show owns c dst fullShare Y ⊢ (iprop(∃ f, ⌜dst.view.read (Elt F) f = Y⌝ ∗ (dst.view.loc c ↦[dst.view.set]{fullShare} f)) : sProp 𝕄) from .rfl) $$ Hd
  icases Hd' with ⟨%fd, -, Hd⟩
  iapply (copy_issue EC 𝒱 c bd ι N hN hN0 hSs (Finset.Subset.refl _)) $$ [Hs Hd Hv]
  · isplitl [Hs]; · iexact Hs
    isplitl [Hd] <;> iassumption
  iintro Hf
  iapply Hk
  iapply (Transfers.Flight_mono EC c ?_) $$ Hf
  iintro ⟨Hd, Hs⟩
  isplitl [Hd]; · iapply (owns_of_write c dst _ _); iexact Hd
  iexact Hs

/-- A copy issued from a buffer owned through the source memref, into a region holding the destination. -/
theorem copy_out [Infinite Name] [EC.LandsIn (upEmb : UEmb _ 𝕄)]
    {src : Memref sig c.2.kind sp s e} {dst : Memref sig c.2.kind sp' s e} {sm : SemLoc sig}
    {hsrc : src.view.WordExact} {hdst : dst.view.WordExact} {hsem : DmaTarget.Typed (nD := nD) sp sm (.here dst)}
    {k : PUnit → Prog (TpuEff nD τ sig (Elt F) Λ c.2) α} {q : PosShare TreeShare}
    {Sd : Finset (Idx (dst.view.loc c))} {fd : Buf (Elt F) (dst.view.loc c)} {X : s.Idx → Elt F e}
    (ι : Ix) (N : ℕ) (hN : dst.view.amount sm = N) (hN0 : 0 < N) (hSd : dst.view.set ⊆ Sd) :
    iprop(owns c src q X ∗ (dst.view.loc c ↦[Sd]{fullShare} fd) ∗ semVal (c, sm) 0)
      ⊢ iprop((Transfers.Flight EC c sm ι N iprop((dst.view.loc c ↦[Sd]{fullShare} (dst.view.write (Elt F) fd X Finset.univ)) ∗ owns c src q X)
              -∗ wp frame (wpE defs 𝒱 c bd) Set.univ (k ⟨⟩) Q)
          -∗ wp frame (wpE defs 𝒱 c bd) Set.univ (.op (.enqueueDma src (.here dst) sm hsrc hdst hsem) k) Q) := by
  iintro ⟨Hs, Hd, Hv⟩ Hk
  ihave Hs' := (show owns c src q X ⊢ (iprop(∃ f, ⌜src.view.read (Elt F) f = X⌝ ∗ (src.view.loc c ↦[src.view.set]{q} f)) : sProp 𝕄) from .rfl) $$ Hs
  icases Hs' with ⟨%fs, %hfs, Hs⟩
  subst hfs
  iapply (copy_issue EC 𝒱 c bd ι N hN hN0 (Finset.Subset.refl _) hSd) $$ [Hs Hd Hv]
  · isplitl [Hs]; · iexact Hs
    isplitl [Hd] <;> iassumption
  iintro Hf
  iapply Hk
  iapply (Transfers.Flight_mono EC c ?_) $$ Hf
  iintro ⟨Hd, Hs⟩
  isplitl [Hd]; · iexact Hd
  iapply (owns_intro c src _ _)
  iexact Hs

/-- An indirect gather issued from a table of which a region holding the source is owned at some share, its list and its
    destination owned through their memrefs, every word of the list naming a row of the table: in flight, it brings
    back the destination reading the table's rows at the list's words, the table's share and the list. -/
theorem gather_issue [Infinite Name] [EC.LandsIn (upEmb : UEmb _ 𝕄)] {s₀ si : Shape} {a : Nat}
    {src : Memref sig c.2.kind sp s₀ e} {dst : Memref sig c.2.kind .vmem s e} {hg : s₀.Gathers a s}
    {offs : Memref sig c.2.kind .vmem si .i32} {hn : si.numel = s.size hg.axis'} {sem : DmaSem sig}
    {hp : c.2.kind = .scVector} {hsrc : src.view.WordExact} {he : e.bits = 32} {hsp : sp = .hbm ∨ sp = .shared} {hr : s₀.StreamRows a}
    {k : PUnit → Prog (TpuEff nD τ sig (Elt F) Λ c.2) α}
    {q : PosShare TreeShare} {Ss : Finset (Idx (src.view.loc c))} {fs : Buf (Elt F) (src.view.loc c)}
    {Y X : s.Idx → Elt F e} {I : si.Idx → Elt F .i32}
    (ι : Ix) (N : ℕ) (hN : ∑ j, (dst.slice (s.rowRect hg.axis' j) (s.stride_rowRect hg.axis' j)).view.dmaCredit = N)
    (hs : 0 < s.numel) (hin : ∀ x, (I x).toNat < s₀.size hg.axis) (hSs : src.view.set ⊆ Ss)
    (hX : SparseCore.gatherPayload hg (src.view.read (Elt F) fs) (SparseCore.rows I hn hin) = X) :
    iprop((src.view.loc c ↦[Ss]{q} fs) ∗ owns c dst fullShare Y ∗ owns c offs fullShare I ∗ semVal (c, SemLoc.dma sem) 0)
      ⊢ iprop((Transfers.Flight EC c (.dma sem) ι N
                iprop(owns c dst fullShare X ∗ (src.view.loc c ↦[Ss]{q} fs) ∗ owns c offs fullShare I)
              -∗ wp frame (wpE defs 𝒱 c bd) Set.univ (k ⟨⟩) Q)
          -∗ wp frame (wpE defs 𝒱 c bd) Set.univ (SparseCore.enqueueIndirectGather hp src dst hg offs hn sem hsrc he hsp hr >>= k) Q) := by
  subst hX
  iintro ⟨Hs, Hd, Ho, Hv⟩ Hk
  ihave Hs' := (pointsTo_split_subset (q := q) (f := fs) hSs).1 $$ Hs
  icases Hs' with ⟨Hs, Hr⟩
  ihave Hd' := (show owns c dst fullShare Y ⊢ (iprop(∃ f, ⌜dst.view.read (Elt F) f = Y⌝ ∗ (dst.view.loc c ↦[dst.view.set]{fullShare} f)) : sProp 𝕄) from .rfl) $$ Hd
  icases Hd' with ⟨%fd, -, Hd⟩
  ihave Ho' := (show owns c offs fullShare I ⊢ (iprop(∃ f, ⌜offs.view.read (Elt F) f = I⌝ ∗ (offs.view.loc c ↦[offs.view.set]{fullShare} f)) : sProp 𝕄) from .rfl) $$ Ho
  icases Ho' with ⟨%fo, %hfo, Ho⟩
  subst hfo
  iapply (SparseCore.wp_indirectGatherLocal EC 𝒱 c bd ι N hN hs hin) $$ [Hs Hd Ho Hv]
  · isplitl [Hs]; · iexact Hs
    isplitl [Hd]; · iexact Hd
    isplitl [Ho] <;> iassumption
  iintro Hf
  iapply Hk
  ihave Hf' := (flight_frame EC c) $$ [Hf Hr]
  · isplitl [Hf]; · iexact Hf
    iexact Hr
  iapply (Transfers.Flight_mono EC c ?_) $$ Hf'
  iintro ⟨⟨Hd, Hs, Ho⟩, Hr⟩
  isplitl [Hd]; · iapply (owns_of_write c dst _ _); iexact Hd
  isplitl [Hs Hr]
  · iapply (pointsTo_split_subset (q := q) (f := fs) hSs).2
    isplitl [Hs] <;> iassumption
  iapply (owns_intro c offs _ _)
  iexact Ho

/-- What thread `c` owes, whatever waits it has recorded beside those of `W`, all at the index `ι`. -/
def owing (ι : Ix) (O : CellTallies nD τ sig Ix) (W : Waits sig Ix) : sProp 𝕄 :=
  iprop(∃ W', ⌜∀ p ∈ W', p ∈ W ∨ p.2 = ι⌝ ∗ owes c O W')

/-- The wait for a transfer in flight: what it delivers, the semaphore back at zero. -/
theorem wait_step [EC.LandsIn (upEmb : UEmb _ 𝕄)] {s' : Shape} {e' : EltTy} {κ' : Kind} {sem : DmaSem sig}
    {srcw : Memref sig c.2.kind sp' s' e'} {dstw : Memref sig κ' sp s e} {hsrc : srcw.view.WordExact} {hdst : dstw.view.WordExact}
    {k : PUnit → Prog (TpuEff nD τ sig (Elt F) Λ c.2) α} (ι : Ix) {N : ℕ} (hN : dstw.view.dmaCredit = N) {D : sProp 𝕄}
    {O : CellTallies nD τ sig Ix} {W : Waits sig Ix} :
    iprop(Transfers.MayWaits c ι O ∗ Transfers.Flight EC c (.dma sem) ι N D ∗ owing c ι O W)
      ⊢ iprop((iprop(D ∗ semVal (c, .dma sem) 0 ∗ owing c ι O W) -∗ wp frame (wpE defs 𝒱 c bd) Set.univ (k ⟨⟩) Q)
          -∗ wp frame (wpE defs 𝒱 c bd) Set.univ (.op (.waitDma2 sem srcw dstw hsrc hdst) k) Q) := by
  unfold owing
  iintro ⟨#Hmw, Hf, %W', %hW', HO⟩ Hk
  iapply (Transfers.wp_waitLocalO EC 𝒱 c bd ι hN) $$ [Hf HO]
  · isplitl [Hf]; · iexact Hf
    isplitl [HO]; · iexact HO
    iapply (Transfers.MayWaits.elim (SemLoc.dma sem)) $$ Hmw
  iintro ⟨HD, Hv, HO⟩
  iapply Hk
  isplitl [HD]; · iexact HD
  isplitl [Hv]; · iexact Hv
  iexists _
  isplitr
  swap; · iexact HO
  ipureintro
  intro p hp
  rcases Finset.mem_insert.mp hp with hp | hp
  · exact .inr (hp ▸ rfl)
  · exact hW' p hp

/-- A gather of lanes out of tile memory owned through its memref: the lanes are what the memref reads at the indices. -/
theorem lanes_fetch {t : Shape} {base : Memref sig c.2.kind .vmem s e} {idxs : Fin s.rank → IVec t 32}
    {h : ∀ a x, (idxs a x).toNat < s.size a} {hl : base.view.Loads} {k : Vec F t e → Prog (TpuEff nD τ sig (Elt F) Λ c.2) α}
    {q : PosShare TreeShare} {X : s.Idx → Elt F e} :
    owns c base q X
      ⊢ iprop((owns c base q X -∗ wp frame (wpE defs 𝒱 c bd) Set.univ (k (loadIdx X idxs h)) Q)
        -∗ wp frame (wpE defs 𝒱 c bd) Set.univ (SparseCore.vectorLoadIdx base idxs h hl >>= k) Q) := by
  iintro HR Hk
  ihave HR := (show owns c base q X ⊢ (iprop(∃ g, ⌜base.view.read (Elt F) g = X⌝ ∗ (base.view.loc c ↦[base.view.set]{q} g)) : sProp 𝕄) from .rfl) $$ HR
  icases HR with ⟨%g, %hg, HR⟩
  have hr : (base.access (.whole s)).read (Elt F) g = X := by
    rw [← hg]; funext x
    show _root_.cast _ (g (base.view.emb ((Rect.whole s).emb x))) = _root_.cast _ (g (base.view.emb x))
    rw [Rect.emb_whole_apply]
  rw [← hr]
  iapply (SparseCore.wp_vectorLoadIdx 𝒱 c bd Set.univ (base := base) (S := base.view.set) (f := g) (View.set_slice_subset _ _)) $$ HR
  iintro HR
  iapply Hk
  rw [hr, ← hg]
  iapply (owns_intro c base q g)
  iexact HR

/-! ## A tile's own semaphores and buffers -/

section Own

open Idealize.ShloMosaic.SparseCore.Cfg (ownBufs ownSems0 ownCells ownRefs mem_ownCells mem_ownRefs_of_owner)

/-- Of a thread's own semaphores at zero, some named ones, and the rest. -/
theorem own_sems (thr : Thread nD τ) (T : Finset (SemLoc sig)) (hT : ∀ s ∈ T, GSem.isScoped (nD := nD) (τ := τ) (sig := sig) (thr, s) = true) :
    (ownSems0 thr : sProp 𝕄)
      = iprop((bigSep T fun s => semVal (thr, s) 0) ∗ bigSep (ownCells thr \ T.map ⟨fun s => ((thr, s) : GSem nD τ sig), fun _ _ h => (Prod.mk.inj h).2⟩) fun g => semVal g 0) := by
  unfold SparseCore.Cfg.ownSems0
  rw [SparseCore.bigSep_sdiff_split' (t := T.map ⟨fun s => ((thr, s) : GSem nD τ sig), fun _ _ h => (Prod.mk.inj h).2⟩), SparseCore.bigSep_map]
  · rfl
  · intro g hg
    obtain ⟨s, hs, rfl⟩ := Finset.mem_map.mp hg
    exact mem_ownCells.mpr ⟨rfl, hT s hs⟩

/-- Of a thread's own buffers at some contents, some named ones, and the rest. -/
theorem own_bufs (thr : Thread nD τ) (T : Finset (Ref sig thr.2.kind)) (hT : ∀ b ∈ T, (thr.2.devRef b).owner = .proc thr.2) :
    (ownBufs thr : sProp 𝕄)
      = iprop((bigSep T fun b => iprop(∃ f, thr.loc b ↦{fullShare} f))
          ∗ bigSep (ownRefs thr.2 \ T.map ⟨thr.2.devRef, Proc.devRef_injective _⟩) fun b => iprop(∃ f, ((thr.1, b) : Loc nD τ sig) ↦{fullShare} f)) := by
  unfold SparseCore.Cfg.ownBufs
  rw [SparseCore.bigSep_sdiff_split' (t := T.map ⟨thr.2.devRef, Proc.devRef_injective _⟩), SparseCore.bigSep_map]
  · rfl
  · intro g hg
    obtain ⟨s, hs, rfl⟩ := Finset.mem_map.mp hg
    exact mem_ownRefs_of_owner (hT s hs)

end Own

end Cert.Proof.Steps

end
-- ==== Proof.Take.lean ====
/-
  What both programs compute, the table's rows at the indices, and what the precondition says of these.
-/
module

public import proofs.«01_k».proof.Defs
public import proofs.«01_k».proof.Proof.Gen.Pre_in_vocab
public import Idealize.ShloMosaic.Lib.ReduceAll
public import Idealize.ShloMosaic.Lib.WordCmp
public import Idealize.ShloMosaic.Lib.ValueIdxCore

@[expose] public section

noncomputable section

namespace Cert.Proof.Take

open Idealize.ShloMosaic Idealize.ShloMosaic.WordCmp Idealize.ShloMosaic.ValueIdx

variable {F : FTy → Type}

/-- Entry `(i, j, k)`: column `k` of the table's row number `v[i, j]`. -/
def take (v : IVec ⟨2, ![16384, 50]⟩ 32) (x : FVec F ⟨2, ![1000000, 64]⟩ .f32) : FVec F ⟨3, ![16384, 50, 64]⟩ .f32 := fun y =>
  x (ix2 ⟨(v (ix2 ⟨(y 0).val, (y 0).isLt⟩ ⟨(y 1).val, (y 1).isLt⟩)).toNat % 1000000, Nat.mod_lt _ (by decide)⟩ ⟨(y 2).val, (y 2).isLt⟩)

/-- A word that is at least zero and below a million, both read signed, is below a million read unsigned. -/
theorem word_lt {w : BitVec 32} (h : IntOp.andi (IntOp.cmpi .sge w 0#32) (IntOp.cmpi .slt w 1000000#32) = 1#1) : w.toNat < 1000000 := by
  simp only [IntOp.cmpi, andi_ofBool, ofBool_eq_one_iff, Bool.and_eq_true, BitVec.sle_eq_decide, BitVec.slt_eq_decide, decide_eq_true_eq,
    BitVec.toInt_eq_toNat_cond, BitVec.toNat_ofNat] at h
  obtain ⟨h0, h1⟩ := h
  split at h1 <;> simp at h0 h1 <;> omega

/-- Under the precondition every index names a row of the table. -/
theorem lt_of_pre [FloatOps F] (v : IVec ⟨2, ![16384, 50]⟩ 32) (x : FVec F ⟨2, ![1000000, 64]⟩ .f32)
    (h : Cert.Pre_in_vocab.fn v x = fun _ => 1#1) (j : (⟨2, ![16384, 50]⟩ : Shape).Idx) : (v j).toNat < 1000000 := by
  have h0 := congrFun h (fun a => a.elim0)
  haveI : Subsingleton (Cert.Pre_in_vocab.S_).Idx := ⟨fun a b => funext fun i => i.elim0⟩
  exact word_lt (Host.reduce_andi_all _ _ _ _ _ h0 j)

end Cert.Proof.Take

end
-- ==== Proof.OffsetsKernelIdeal.lean ====
/-
  The offsets the gather call's transfers are issued at, in closed form: its tile `i` handles the 200 blocks from
  number `400 * i 1 + 200 * i 0`, block `b` being the 128 words from `128 * b` of the index list and the 128 columns
  from `128 * (b % 128)` of plane `b / 128` of the output.
-/
module

public import proofs.«01_k».proof.Defs
public import proofs.«01_k».proof.Proof.Gen.KernelIdeal
public import proofs.«01_k».proof.Proof.Gen.KernelIdeal.Skeleton

@[expose] public section

namespace Cert.Proof.KernelIdeal

open Cert.KernelIdeal Cert.KernelIdeal.Gen
open Idealize.ShloMosaic

/-- Tile `i`'s block number `t`. -/
def blk (i : grid1.Coords) (t : Nat) : Nat := 400 * (i 1).val + 200 * (i 0).val + t

/-- The index fetches before the loop, and the one that would follow it. -/
theorem off1_0 : ∀ i : grid1.Coords, k1_off1 i 0#32 = ![128 * blk i 0] := by decide +kernel
/-- The second block's first index fetch. -/
theorem off1_1 : ∀ i : grid1.Coords, k1_off1 i 1#32 = ![128 * blk i 1] := by decide +kernel
/-- Trip `p`'s first index fetch. -/
theorem off2_2 : ∀ (i : grid1.Coords) (p : Fin k1_t1_loop.trips), k1_off2 i p 2#32 = ![128 * blk i (2 * p.val + 2)] := by decide +kernel
/-- Trip `p`'s second index fetch. -/
theorem off13_2 : ∀ (i : grid1.Coords) (p : Fin k1_t1_loop.trips), k1_off13 i p 2#32 = ![128 * blk i (2 * p.val + 3)] := by decide +kernel
/-- Trip `p`'s first write: its plane and columns. -/
theorem off11 : ∀ (i : grid1.Coords) (p : Fin k1_t1_loop.trips), k1_off11 i p = ![blk i (2 * p.val) / 128, 0, 0] := by decide +kernel
/-- Trip `p`'s first write: its columns. -/
theorem off12 : ∀ (i : grid1.Coords) (p : Fin k1_t1_loop.trips), k1_off12 i p = ![0, 128 * (blk i (2 * p.val) % 128)] := by decide +kernel
/-- Trip `p`'s second write. -/
theorem off22 : ∀ (i : grid1.Coords) (p : Fin k1_t1_loop.trips), k1_off22 i p = ![blk i (2 * p.val + 1) / 128, 0, 0] := by decide +kernel
/-- Trip `p`'s second write: its columns. -/
theorem off23 : ∀ (i : grid1.Coords) (p : Fin k1_t1_loop.trips), k1_off23 i p = ![0, 128 * (blk i (2 * p.val + 1) % 128)] := by decide +kernel
/-- The two writes after the loop. -/
theorem off32_198 : ∀ i : grid1.Coords, k1_off32 i 198#32 = ![blk i 198 / 128, 0, 0] := by decide +kernel
/-- The first write after the loop: its columns. -/
theorem off33_198 : ∀ i : grid1.Coords, k1_off33 i 198#32 = ![0, 128 * (blk i 198 % 128)] := by decide +kernel
/-- The second write after the loop: its plane. -/
theorem off32_199 : ∀ i : grid1.Coords, k1_off32 i 199#32 = ![blk i 199 / 128, 0, 0] := by decide +kernel
/-- The second write after the loop: its columns. -/
theorem off33_199 : ∀ i : grid1.Coords, k1_off33 i 199#32 = ![0, 128 * (blk i 199 % 128)] := by decide +kernel

end Cert.Proof.KernelIdeal
-- ==== Proof.SetupKernelIdeal.lean ====
/-
  The two SparseCore calls of the program: the ghost state their launch runs over, the values the buffers come to hold,
  and what each tile is dealt.

  The first call lays the transposed index array out as one list: tile `i` copies the rows congruent to its number
  modulo 32. The second gathers: tile `i` takes 200 consecutive blocks of 128 list words, fetches the 128 table rows
  each names, transposes them in tile memory and writes 64 rows of 128 columns of the output.
-/
module

public import proofs.«01_k».proof.Defs
public import proofs.«01_k».proof.Proof.Steps
public import proofs.«01_k».proof.Proof.OffsetsKernelIdeal
public import Idealize.ShloMosaic.Lib.StableHlo.Run
public import Idealize.ShloMosaic.Lib.Pipeline.Kit
public import Idealize.ShloMosaic.Lib.ShareLeaves
public import Idealize.ShloMosaic.Lib.ValueIdxCore
public import Idealize.ShloMosaic.Lib.ValueLayout
public import proofs.«01_k».proof.Proof.Gen.KernelIdeal
public import proofs.«01_k».proof.Proof.Gen.KernelIdeal.Skeleton

@[expose] public section

noncomputable section

namespace Cert.Proof.KernelIdeal

open Cert.KernelIdeal Cert.KernelIdeal.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

/-- The program's labels. -/
abbrev ΛP : Labels := Pipeline.Sig Λ₀ (Fin 0) fun p => (pcfgs (F := F) p).Adm
/-- The two SparseCore calls. -/
abbrev K : SparseCore.Cfg τ sig (ΛP (F := F)) 2 := sc (F := F)
/-- Each call runs on sixteen tiles of a core. -/
theorem nSub_eq (q : Fin 2) : (K (F := F)).nSub q = 16 := by fin_cases q <;> rfl
/-- Each call runs on two cores. -/
theorem nCore_eq (q : Fin 2) : (K (F := F)).nCore q = 2 := by fin_cases q <;> rfl
/-- The program's functions. -/
abbrev D [FloatOps F] : Defs nD τ sig (Elt F) (ΛP (F := F)) := Pipeline.defs pcfgs defs₀
/-- No loop variant is needed. -/
abbrev 𝒱₀ : Variants := Variants.none
/-- Nor for the labels that launches add. -/
abbrev 𝒱 : Variants := 𝒱₀.lift
/-- The variant the tiles start at. -/
abbrev v₀ : 𝒱.V := Sum.inl none

/-- The calls use semaphores and buffers as the launch asks. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds library, the transfers' counters -/

/-- The handshakes' resource. -/
abbrev UH : Type := URounds (GSem nD τ sig) ℕ
/-- The handshakes' and the transfers'. -/
abbrev UU : Type := UH × Counters

local notation "𝕄" => MT nD τ sig (HIx 2) (Elt F) ℕ UU ℕ

/-- The handshakes' place in it. -/
abbrev EH : Emb UH (MT nD τ sig (HIx 2) (Elt F) ℕ UU ℕ) := embL

/-! ## The buffers -/

/-- The indices. -/
abbrev aLoc (d : Dev nD) : Loc nD τ sig := (SparseCore.T d).loc main_arg0
/-- The table. -/
abbrev bLoc (d : Dev nD) : Loc nD τ sig := (SparseCore.T d).loc main_arg1
/-- The transposed indices. -/
abbrev trLoc (d : Dev nD) : Loc nD τ sig := (SparseCore.T d).loc main_v0
/-- The index list. -/
abbrev ixLoc (d : Dev nD) : Loc nD τ sig := (SparseCore.T d).loc main_v1
/-- The padded table. -/
abbrev tbLoc (d : Dev nD) : Loc nD τ sig := (SparseCore.T d).loc main_v2
/-- The gather's output. -/
abbrev outLoc (d : Dev nD) : Loc nD τ sig := (SparseCore.T d).loc main_v3
/-- The result. -/
abbrev resLoc (d : Dev nD) : Loc nD τ sig := (SparseCore.T d).loc main_v4

/-! ## The values -/

/-- The list the first call makes of the transposed index array: its rows one after another. -/
def listOf (g : S50x16384.Idx → Elt F .i32) : S819200.Idx → Elt F .i32 := fun y =>
  g (ix2 ⟨(y 0).val / 16384, by have : (y 0).val < 819200 := (y 0).isLt; omega⟩ ⟨(y 0).val % 16384, by omega⟩)

/-- The row of the table that a word of the list names. -/
def rowOf (v : Elt F .i32) : Fin 1000000 := ⟨(v : BitVec 32).toNat % 1000000, by omega⟩

/-- What the second call makes of a list and a table: column `x 2` of plane `x 0` is the table row that word
    `16384 * x 0 + x 2` of the list names, its first 64 entries. -/
def outOf (l : S819200.Idx → Elt F .i32) (tb : S1000000x128.Idx → Elt F .f32) : S50x64x16384.Idx → Elt F .f32 := fun x =>
  tb (ix2 (rowOf (l (ix1 ⟨16384 * (x 0).val + (x 2).val, by
      have h0 : (x 0).val < 50 := (x 0).isLt
      have h2 : (x 2).val < 16384 := (x 2).isLt
      omega⟩))) ⟨(x 1).val, by have h1 : (x 1).val < 64 := (x 1).isLt; omega⟩)

/-- The list words tile `i` of the first call writes. -/
def listSet (i : grid0.Coords) : Finset S819200.Idx :=
  Finset.univ.filter fun y => (y 0).val / 16384 % 32 = 2 * (i 1).val + (i 0).val

/-- The output entries tile `i` of the second call writes. -/
def outSet (i : grid1.Coords) : Finset S50x64x16384.Idx :=
  Finset.univ.filter fun x => (128 * (x 0).val + (x 2).val / 128) / 200 = 2 * (i 1).val + (i 0).val

/-! ## The tiles -/

/-- The first call's core at given coordinates. -/
abbrev cV0 (L : grid0.Coords) : Fin τ.nSC := (L 0).castLE hcore0
/-- The first call's tile at given coordinates. -/
abbrev jV0 (L : grid0.Coords) : Fin τ.nSub := (L 1).castLE hsub0
/-- The second call's core at given coordinates. -/
abbrev cV1 (L : grid1.Coords) : Fin τ.nSC := (L 0).castLE hcore1
/-- The second call's tile at given coordinates. -/
abbrev jV1 (L : grid1.Coords) : Fin τ.nSub := (L 1).castLE hsub1
/-- The thread of tile `L` of the first call, of the second. -/
abbrev tile0 (d : Dev nD) (L : grid0.Coords) : Thread nD τ := V d (cV0 L) (jV0 L)
/-- The second call's thread at given coordinates. -/
abbrev tile1 (d : Dev nD) (L : grid1.Coords) : Thread nD τ := V d (cV1 L) (jV1 L)

/-- What the waits of a kernel of local copies and streams need: the thread may wait for any semaphore at the index that
    nothing is owed at. -/
theorem mayWaits (thr : Thread nD τ) (O : CellTallies nD τ sig (HIx 2)) (hO : ∀ g, O g none = 0) :
    (levAts (K (F := F)).L (K (F := F)).lev : sProp 𝕄) ⊢ Transfers.MayWaits thr (default : HIx 2) O :=
  (K (F := F)).mayWaits_none (thr := thr) hO

end Cert.Proof.KernelIdeal

end
-- ==== Proof.DetileKernelIdeal.lean ====
/-
  The first SparseCore call's body on one tile: the rows of the transposed index array that fall to it, copied through
  tile memory to their places in the list.
-/
module

public import proofs.«01_k».proof.Proof.SetupKernelIdeal

@[expose] public section

noncomputable section

namespace Cert.Proof.KernelIdeal

open Cert.KernelIdeal Cert.KernelIdeal.Gen Cert.Proof.Steps

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 2) (Elt F) ℕ UU ℕ

/-- Row `r` of the index array as the tile reads it, and row `r`'s place in the list as the tile writes it. -/
abbrev rowSrc (o : Fin 2 → Nat) (h : ∀ a, o a + S1x16384.size a ≤ S50x16384.size a) : Memref sig .scVector .hbm S16384 .i32 :=
  ((Memref.whole main_v0_scv).slice (Rect.unit (s := S50x16384) o S1x16384.size h) (fun _ => rfl)).squeeze S16384 squeezes_S1x16384_S16384
/-- A row of 16384 words of the list. -/
abbrev rowDst (o : Fin 1 → Nat) (h : ∀ a, o a + S16384.size a ≤ S819200.size a) : Memref sig .scVector .hbm S16384 .i32 :=
  (Memref.whole main_v1_scv).slice (Rect.unit (s := S819200) o S16384.size h) (fun _ => rfl)

/-- The tile's read of row `r`. -/
theorem rowSrc_read (o : Fin 2 → Nat) (h) (r : Fin 50) (ho : o = ![r.val, 0]) (g : S50x16384.Idx → Elt F .i32) :
    (rowSrc o h).view.read (Elt F) g = fun x => g (ix2 r (x 0)) := by
  subst ho
  funext x
  rw [View.read_apply]
  show g ((Rect.unit (s := S50x16384) ![r.val, 0] S1x16384.size h).emb (Shape.reshapeEquiv _ x)) = _
  rw [Shape.reshapeEquiv_cons_one (n := 1) (d := ![16384])]
  congr 1
  funext a
  apply Fin.ext
  match a with
  | ⟨0, _⟩ => show r.val + 1 * 0 = r.val; omega
  | ⟨1, _⟩ => show 0 + 1 * (x 0).val = (x 0).val; omega

/-- The tile's place for row `r` of the list. -/
theorem mem_rowDst (o : Fin 1 → Nat) (h) (r : Fin 50) (ho : o = ![16384 * r.val]) (y : S819200.Idx) :
    y ∈ (rowDst o h).view.set ↔ (y 0).val / 16384 = r.val := by
  subst ho
  rw [show (rowDst _ h).view.set = _ from View.set_slice_whole _ _, Rect.mem_set_unit]
  constructor
  · intro hy
    have := hy 0
    simp only [Matrix.cons_val_zero, Matrix.cons_val_fin_one] at this
    omega
  · intro hy a
    match a with
    | ⟨0, _⟩ =>
      show 16384 * r.val ≤ (y 0).val ∧ (y 0).val < 16384 * r.val + 16384
      omega

/-- The list after the tile's write of row `r`: that row is the written one, the others are as before. -/
theorem rowDst_write (o : Fin 1 → Nat) (h) (r : Fin 50) (ho : o = ![16384 * r.val]) (g : S50x16384.Idx → Elt F .i32)
    (f : S819200.Idx → Elt F .i32) (y : S819200.Idx) :
    (rowDst o h).view.write (Elt F) f (fun x => g (ix2 r (x 0))) Finset.univ y
      = if (y 0).val / 16384 = r.val then listOf g y else f y := by
  split
  · next hr =>
    obtain ⟨x, -, rfl⟩ := Finset.mem_map.mp ((mem_rowDst o h r ho y).mpr hr)
    rw [View.write_emb_of_mem _ _ (Finset.mem_univ _)]
    subst ho
    show g (ix2 r (x 0)) = g (ix2 _ _)
    have hx : (x 0).val < 16384 := (x 0).isLt
    have e : (((rowDst _ h).view.emb x 0).val) = 16384 * r.val + 1 * (x 0).val := rfl
    congr 2 <;> apply Fin.ext
    · exact hr.symm
    · show (x 0).val = _ % 16384
      rw [e]; omega
  · next hr =>
    exact View.write_of_not_mem _ _ _ fun hy => hr ((mem_rowDst o h r ho y).mp hy)

variable [FloatOps F] {Q : PUnit → sProp (MT nD τ sig (HIx 2) (Elt F) ℕ UU ℕ)}

/-- One row moved: row `r` of the index array through the tile buffer `b` into its place in the list. -/
theorem row_step (d : Dev nD) (L : grid0.Coords) {O : CellTallies nD τ sig (HIx 2)} {W : Waits sig (HIx 2)}
    {o : Fin 2 → Nat} {h} {o' : Fin 1 → Nat} {h'} (r : Fin 50) (ho : o = ![r.val, 0]) (ho' : o' = ![16384 * r.val])
    (b : Memref sig .scVector .vmem S16384 .i32) (hb : 0 < b.view.dmaCredit) {sA sB : DmaSem sig}
    {hs₁ : (rowSrc o h).view.WordExact} {hd₁ : b.view.WordExact} {ht₁ : DmaTarget.Typed (nD := nD) (τ := τ) .hbm (.dma sA) (DmaTarget.here (p := Proc.scVector (cV0 L) (jV0 L)) b)}
    {hs₂ hd₂} {hs₃ : b.view.WordExact} {hd₃ : (rowDst o' h').view.WordExact}
    {ht₃ : DmaTarget.Typed (nD := nD) (τ := τ) .vmem (.dma sB) (DmaTarget.here (p := Proc.scVector (cV0 L) (jV0 L)) (rowDst o' h'))} {hs₄ hd₄}
    {k : PUnit → Prog (TpuEff nD τ sig (Elt F) Λ₀ (.scVector (cV0 L) (jV0 L))) PUnit}
    {q : PosShare TreeShare} {S : Finset S819200.Idx} {g : S50x16384.Idx → Elt F .i32} {f : S819200.Idx → Elt F .i32}
    {Y : S16384.Idx → Elt F .i32}
    (hS : ∀ y : S819200.Idx, (y 0).val / 16384 = r.val → y ∈ S) :
    iprop(Transfers.MayWaits (tile0 d L) (default : HIx 2) O ∗ (trLoc d ↦{q} g) ∗ owns (tile0 d L) b fullShare Y ∗ (ixLoc d ↦[S]{fullShare} f)
        ∗ semVal (tile0 d L, .dma sA) 0 ∗ semVal (tile0 d L, .dma sB) 0 ∗ owing (tile0 d L) (default : HIx 2) O W)
      ⊢ iprop((iprop((trLoc d ↦{q} g) ∗ (∃ Y, owns (tile0 d L) b fullShare Y)
              ∗ (ixLoc d ↦[S]{fullShare} fun y => if (y 0).val / 16384 = r.val then listOf g y else f y)
              ∗ semVal (tile0 d L, .dma sA) 0 ∗ semVal (tile0 d L, .dma sB) 0 ∗ owing (tile0 d L) (default : HIx 2) O W)
            -∗ wp frame (wpE (defs₀ (F := F)) 𝒱₀ (tile0 d L) none) Set.univ (k ⟨⟩) Q)
          -∗ wp frame (wpE (defs₀ (F := F)) 𝒱₀ (tile0 d L) none) Set.univ
            (.op (.enqueueDma (rowSrc o h) (.here b) (.dma sA) hs₁ hd₁ ht₁) fun _ =>
              .op (.waitDma2 sA (rowSrc o h) b hs₂ hd₂) fun _ =>
              .op (.enqueueDma b (.here (rowDst o' h')) (.dma sB) hs₃ hd₃ ht₃) fun _ =>
              .op (.waitDma2 sB b (rowDst o' h') hs₄ hd₄) k) Q) := by
  iintro ⟨#Hmw, Hg, Hb, Hf, HA, HB, HO⟩ Hk
  iapply (copy_issue_owns countersEmb 𝒱₀ (tile0 d L) none (default : HIx 2) b.view.dmaCredit rfl hb (src := rowSrc o h) (dst := b) (sm := .dma sA)
    (Finset.subset_univ _) (rowSrc_read o h r ho g)) $$ [Hg Hb HA]
  · isplitl [Hg]; · iexact Hg
    isplitl [Hb]; · iexact Hb
    iexact HA
  iintro Hfl
  iapply (wait_step countersEmb 𝒱₀ (tile0 d L) none (default : HIx 2) rfl) $$ [Hfl HO]
  · isplitr; · iexact Hmw
    isplitl [Hfl]; · iexact Hfl
    iexact HO
  iintro ⟨⟨Hb, Hg⟩, HA, HO⟩
  iapply (copy_out countersEmb 𝒱₀ (tile0 d L) none (default : HIx 2) (Ref.dmaCredit main_v1_scv S16384 .i32) rfl
    (by decide) (sm := .dma sB) (dst := rowDst o' h') (Sd := S) (fun y hy => hS y ((mem_rowDst o' h' r ho' y).mp hy))) $$ [Hf Hb HB]
  · isplitl [Hb]; · iexact Hb
    isplitl [Hf]; · iexact Hf
    iexact HB
  iintro Hfl
  iapply (wait_step countersEmb 𝒱₀ (tile0 d L) none (default : HIx 2) rfl) $$ [Hfl HO]
  · isplitr; · iexact Hmw
    isplitl [Hfl]; · iexact Hfl
    iexact HO
  iintro ⟨⟨Hf, Hb⟩, HB, HO⟩
  iapply Hk
  isplitl [Hg]; · iexact Hg
  isplitl [Hb]; · iexists _; iexact Hb
  isplitl [Hf]
  · iapply (show (ixLoc d ↦[S]{fullShare} ((rowDst o' h').view.write (Elt F) f (fun x => g (ix2 r (x 0))) Finset.univ) : sProp 𝕄) ⊢
      ixLoc d ↦[S]{fullShare} (fun y => if (y 0).val / 16384 = r.val then listOf g y else f y) from
        .of_eq (by rw [funext (rowDst_write o' h' r ho' g f)]))
    iexact Hf
  isplitl [HA]; · iexact HA
  isplitl [HB]; · iexact HB
  iexact HO

/-- Every tile has a first row; the second row of a tile is below the array's end exactly when the kernel's test says so. -/
theorem cond1_all : ∀ i : grid0.Coords, k0_cond1 i = 1#1 := by decide +kernel
/-- A second row is to be copied by the tiles whose number plus 32 is below 50. -/
theorem cond2_iff : ∀ i : grid0.Coords, k0_cond2 i = 1#1 ↔ 2 * (i 1).val + (i 0).val + 32 < 50 := by decide +kernel

/-- The semaphores of the call. -/
abbrev sems0 : Finset (SemLoc sig) := {.dma cc0_scoped0.sem, .dma cc0_scoped1.sem, .dma cc0_scoped2.sem, .dma cc0_scoped3.sem}

/-- The tile's semaphores at zero: the call's four, and the rest. -/
theorem ownSems_tile0 (d : Dev nD) (L : grid0.Coords) :
    (ownSems0 (tile0 d L) : sProp 𝕄) = iprop((semVal (tile0 d L, .dma cc0_scoped0.sem) 0 ∗ semVal (tile0 d L, .dma cc0_scoped1.sem) 0
        ∗ semVal (tile0 d L, .dma cc0_scoped2.sem) 0 ∗ semVal (tile0 d L, .dma cc0_scoped3.sem) 0)
      ∗ bigSep (ownCells (tile0 d L) \ sems0.map ⟨fun s => ((tile0 d L, s) : GSem nD τ sig), fun _ _ h => (Prod.mk.inj h).2⟩) fun g => semVal g 0) := by
  rw [own_sems (tile0 d L) sems0 (by intro s hs; fin_cases hs <;> rfl)]
  rw [SparseCore.bigSep_insert' (by decide), SparseCore.bigSep_insert' (by decide), SparseCore.bigSep_insert' (by decide), bigSep_singleton]

/-- The tile buffers of the call. -/
abbrev bufs0 : Finset (Ref sig .scVector) := {cc0_scratch0, cc0_scratch1}

/-- The tile's buffers: the call's two, and the rest. -/
theorem ownBufs_tile0 (d : Dev nD) (L : grid0.Coords) :
    (ownBufs (tile0 d L) : sProp 𝕄) = iprop(((∃ f, (tile0 d L).loc cc0_scratch0 ↦{fullShare} f) ∗ (∃ f, (tile0 d L).loc cc0_scratch1 ↦{fullShare} f))
      ∗ bigSep (ownRefs (tile0 d L).2 \ bufs0.map ⟨(tile0 d L).2.devRef, Proc.devRef_injective _⟩) fun b => iprop(∃ f, ((d, b) : Loc nD τ sig) ↦{fullShare} f)) := by
  rw [own_bufs (tile0 d L) bufs0 (by intro s hs; fin_cases hs <;> rfl)]
  rw [SparseCore.bigSep_insert' (show cc0_scratch0 ∉ ({cc0_scratch1} : Finset (Ref sig .scVector)) by decide), bigSep_singleton]

/-- What a tile owed at the start and the waits it has recorded, of a run whose waits are all at the index `none`. -/
theorem owing_intro (thr : Thread nD τ) (O : CellTallies nD τ sig (HIx 2)) (W : Waits sig (HIx 2)) :
    owes thr O W ⊢ (owing thr (default : HIx 2) O W : sProp 𝕄) := by
  unfold owing; iintro H; iexists W; isplitr
  · ipureintro; exact fun _ h => .inl h
  · iexact H

/-- What a tile owes after its waits, with these spelt out. -/
theorem owing_elim (thr : Thread nD τ) (O : CellTallies nD τ sig (HIx 2)) (W : Waits sig (HIx 2)) :
    owing thr (default : HIx 2) O W ⊢ (iprop(∃ W', ⌜∀ p ∈ W', p ∈ W ∨ p.2 = none⌝ ∗ owes thr O W') : sProp 𝕄) := .rfl

/-- A whole buffer owned at some contents read is held at some contents. -/
theorem owns_whole_any (thr : Thread nD τ) (b : Ref sig thr.2.kind) :
    iprop(∃ Y, owns thr (Memref.whole b) fullShare Y) ⊢ (iprop(∃ f, thr.loc b ↦{fullShare} f) : sProp 𝕄) := by
  iintro ⟨%Y, H⟩
  iexists Y
  iapply (Entails.of_eq (owns_whole thr b fullShare Y))
  iexact H

/-- What a tile of the first call hands back, from its pieces. -/
theorem detile_end (d : Dev nD) (L : grid0.Coords) {q : PosShare TreeShare}
    (g : S50x16384.Idx → Elt F .i32) (f : S819200.Idx → Elt F .i32) (O : CellTallies nD τ sig (HIx 2)) (W : Waits sig (HIx 2)) {Rb Rs : sProp 𝕄}
    (hf : ∀ y ∈ listSet L, f y = listOf g y) :
    (iprop((trLoc d ↦{q} g) ∗ (ixLoc d ↦[listSet L]{fullShare} f)
        ∗ (∃ Y, owns (tile0 d L) (Memref.whole cc0_scratch0) fullShare Y) ∗ (∃ Y, owns (tile0 d L) (Memref.whole cc0_scratch1) fullShare Y) ∗ Rb
        ∗ semVal (tile0 d L, .dma cc0_scoped0.sem) 0 ∗ semVal (tile0 d L, .dma cc0_scoped1.sem) 0
        ∗ semVal (tile0 d L, .dma cc0_scoped2.sem) 0 ∗ semVal (tile0 d L, .dma cc0_scoped3.sem) 0 ∗ Rs
        ∗ owing (tile0 d L) (default : HIx 2) O W) : sProp 𝕄)
      ⊢ iprop(((trLoc d ↦{q} g) ∗ (ixLoc d ↦[listSet L]{fullShare} listOf g))
        ∗ (((∃ f, (tile0 d L).loc cc0_scratch0 ↦{fullShare} f) ∗ (∃ f, (tile0 d L).loc cc0_scratch1 ↦{fullShare} f)) ∗ Rb)
        ∗ ((semVal (tile0 d L, .dma cc0_scoped0.sem) 0 ∗ semVal (tile0 d L, .dma cc0_scoped1.sem) 0
            ∗ semVal (tile0 d L, .dma cc0_scoped2.sem) 0 ∗ semVal (tile0 d L, .dma cc0_scoped3.sem) 0) ∗ Rs)
        ∗ ∃ W', ⌜∀ p ∈ W', p ∈ W ∨ p.2 = none⌝ ∗ owes (tile0 d L) O W') := by
  iintro ⟨Hg, Hf, Hb0, Hb1, Hbufs, H0, H1, H2, H3, Hsems, HO⟩
  isplitl [Hg Hf]
  · isplitl [Hg]; · iexact Hg
    iapply (Entails.of_eq (pointsTo_congr (I := listSet L) (q := fullShare) (ℓ := ixLoc d) hf))
    iexact Hf
  isplitl [Hb0 Hb1 Hbufs]
  · isplitl [Hb0 Hb1]
    · isplitl [Hb0]; · iapply (owns_whole_any (F := F) (tile0 d L) cc0_scratch0); iexact Hb0
      iapply (owns_whole_any (F := F) (tile0 d L) cc0_scratch1); iexact Hb1
    iexact Hbufs
  isplitl [H0 H1 H2 H3 Hsems]
  · isplitl [H0 H1 H2 H3]
    · isplitl [H0]; · iexact H0
      isplitl [H1]; · iexact H1
      isplitl [H2]; · iexact H2
      iexact H3
    iexact Hsems
  iapply (owing_elim (F := F) (tile0 d L) O W)
  iexact HO

set_option maxHeartbeats 1600000 in
/-- THE FIRST CALL'S BODY ON A TILE: from a share of the transposed index array and the tile's words of the list at any
    contents, those words hold the array's rows laid out one after another. -/
theorem detile_body (hF : (K (F := F)).Facts) (d : Dev nD) (L : grid0.Coords) {q : PosShare TreeShare}
    (g : S50x16384.Idx → Elt F .i32) (f : S819200.Idx → Elt F .i32)
    (O : CellTallies nD τ sig (HIx 2)) (W : Waits sig (HIx 2)) (hO : ∀ g, O g none = 0) :
    iprop(levAts (K (F := F)).L (K (F := F)).lev ∗ emp
        ∗ ((trLoc d ↦{q} g) ∗ (ixLoc d ↦[listSet L]{fullShare} f))
        ∗ scopedBufs (tile0 d L) ∗ scopedSems0 (tile0 d L) ∗ owes (tile0 d L) O W : sProp 𝕄)
      ⊢ wp frame (wpE (defs₀ (F := F)) 𝒱₀ (tile0 d L) none) Set.univ
          (cc0__detile_kernel L (Memref.whole main_v0_scv) (Memref.isWhole_whole _) (Memref.whole main_v1_scv) (Memref.isWhole_whole _)
            (Memref.whole cc0_scratch0) (Memref.isWhole_whole _) (Memref.whole cc0_scratch1) (Memref.isWhole_whole _)
            cc0_scoped0 cc0_scoped1 cc0_scoped2 cc0_scoped3)
          fun _ => iprop(((trLoc d ↦{q} g) ∗ (ixLoc d ↦[listSet L]{fullShare} listOf g))
            ∗ scopedBufs (tile0 d L) ∗ scopedSems0 (tile0 d L)
            ∗ ∃ W', ⌜∀ p ∈ W', p ∈ W ∨ p.2 = none⌝ ∗ owes (tile0 d L) O W') := by
  have hL0 : (L 0).val < 2 := (L 0).isLt
  have hL1 : (L 1).val < 16 := (L 1).isLt
  have hmem : ∀ (r : Fin 50), r.val % 32 = 2 * (L 1).val + (L 0).val → ∀ y : S819200.Idx, (y 0).val / 16384 = r.val → y ∈ listSet L := by
    intro r hr y hy
    exact Finset.mem_filter.mpr ⟨Finset.mem_univ _, by rw [hy]; exact hr⟩
  simp only [cc0__detile_kernel_eq_skeleton]; unfold cc0__detile_kernel_skel
  rw [(K (F := F)).scopedBufs_V hF d (cV0 L) (jV0 L), SparseCore.Cfg.scopedSems0_V (Val := Elt F) d (cV0 L) (jV0 L)]
  rw [ownSems_tile0 d L, ownBufs_tile0 d L]
  iintro ⟨#Hlv, -, ⟨Hg, Hf⟩, ⟨⟨⟨%f0, Hb0⟩, ⟨%f1, Hb1⟩⟩, Hbufs⟩, ⟨⟨H0, H1, H2, H3⟩, Hsems⟩, HO⟩
  ihave #Hmw := (mayWaits (F := F) (tile0 d L) O hO) $$ Hlv
  ihave Hb0 := (Entails.of_eq (owns_whole (tile0 d L) cc0_scratch0 fullShare f0).symm) $$ Hb0
  ihave Hb1 := (Entails.of_eq (owns_whole (tile0 d L) cc0_scratch1 fullShare f1).symm) $$ Hb1
  ihave HO := (owing_intro (F := F) (tile0 d L) O W) $$ HO
  rw [dif_pos (cond1_all L)]
  have ho1 := k0_off1_eq L
  have ho2 : k0_off2 L = ![16384 * (2 * (L 1).val + (L 0).val)] := by rw [k0_off2_eq]; congr 1; omega
  simp only [Prog.lift, bind, Prog.bind]
  iapply (row_step d L ⟨2 * (L 1).val + (L 0).val, by omega⟩ ho1 ho2 (Memref.whole cc0_scratch0)
    (show 0 < Ref.dmaCredit cc0_scratch0 S16384 .i32 by decide) (hmem _ (by show (2 * (L 1).val + (L 0).val) % 32 = _; omega))) $$ [Hg Hf Hb0 H0 H1 HO]
  · isplitr; · iexact Hmw
    isplitl [Hg]; · iexact Hg
    isplitl [Hb0]; · iexact Hb0
    isplitl [Hf]; · iexact Hf
    isplitl [H0]; · iexact H0
    isplitl [H1]; · iexact H1
    iexact HO
  iintro ⟨Hg, Hb0, Hf, H0, H1, HO⟩
  by_cases hc : k0_cond2 L = 1#1
  · have hw : 2 * (L 1).val + (L 0).val + 32 < 50 := (cond2_iff L).mp hc
    have ho3 := k0_off3_eq L
    have ho4 : k0_off4 L = ![16384 * (2 * (L 1).val + (L 0).val + 32)] := by rw [k0_off4_eq]; congr 1; omega
    rw [dif_pos hc]
    iapply (row_step d L ⟨2 * (L 1).val + (L 0).val + 32, hw⟩ ho3 ho4 (Memref.whole cc0_scratch1)
      (show 0 < Ref.dmaCredit cc0_scratch1 S16384 .i32 by decide) (hmem _ (by show (2 * (L 1).val + (L 0).val + 32) % 32 = _; omega))) $$ [Hg Hf Hb1 H2 H3 HO]
    · isplitr; · iexact Hmw
      isplitl [Hg]; · iexact Hg
      isplitl [Hb1]; · iexact Hb1
      isplitl [Hf]; · iexact Hf
      isplitl [H2]; · iexact H2
      isplitl [H3]; · iexact H3
      iexact HO
    iintro ⟨Hg, Hb1, Hf, H2, H3, HO⟩
    have hE : ∀ y ∈ listSet L, (if (y 0).val / 16384 = 2 * (L 1).val + (L 0).val + 32 then listOf g y else if (y 0).val / 16384 = 2 * (L 1).val + (L 0).val then listOf g y else f y) = listOf g y := by
      intro y hy
      have hy' := (Finset.mem_filter.mp hy).2
      have hy0 : (y 0).val < 819200 := (y 0).isLt
      split; · rfl
      split; · rfl
      next h1 h2 => exfalso; omega
    rw [wp_pure]
    imodintro
    iapply (detile_end (F := F) d L g _ O W hE) $$ [Hg Hf Hb0 Hb1 Hbufs H0 H1 H2 H3 Hsems HO]
    · isplitl [Hg]; · iexact Hg
      isplitl [Hf]; · iexact Hf
      isplitl [Hb0]; · iexact Hb0
      isplitl [Hb1]; · iexact Hb1
      isplitl [Hbufs]; · iexact Hbufs
      isplitl [H0]; · iexact H0
      isplitl [H1]; · iexact H1
      isplitl [H2]; · iexact H2
      isplitl [H3]; · iexact H3
      isplitl [Hsems]; · iexact Hsems
      iexact HO
  · have hw : ¬ 2 * (L 1).val + (L 0).val + 32 < 50 := fun h => hc ((cond2_iff L).mpr h)
    rw [dif_neg hc]
    have hE : ∀ y ∈ listSet L, (if (y 0).val / 16384 = 2 * (L 1).val + (L 0).val then listOf g y else f y) = listOf g y := by
      intro y hy
      have hy' := (Finset.mem_filter.mp hy).2
      have hy0 : (y 0).val < 819200 := (y 0).isLt
      split; · rfl
      next h1 => exfalso; omega
    rw [wp_pure]
    imodintro
    iapply (detile_end (F := F) d L g _ O W hE) $$ [Hg Hf Hb0 Hb1 Hbufs H0 H1 H2 H3 Hsems HO]
    · isplitl [Hg]; · iexact Hg
      isplitl [Hf]; · iexact Hf
      isplitl [Hb0]; · iexact Hb0
      isplitl [Hb1]; · iexists _; iexact Hb1
      isplitl [Hbufs]; · iexact Hbufs
      isplitl [H0]; · iexact H0
      isplitl [H1]; · iexact H1
      isplitl [H2]; · iexact H2
      isplitl [H3]; · iexact H3
      isplitl [Hsems]; · iexact Hsems
      iexact HO

end Cert.Proof.KernelIdeal

end
-- ==== Proof.TransposeKernelIdeal.lean ====
/-
  The transposing loop of the second call: 128 gathered table rows lie in one half of the row buffer, and the loop writes
  their first 64 columns as the 64 rows of a second buffer, sixteen lanes at a time. The kernel has the loop four
  times over; here it is stated once, over the half it reads, and its result is stated for any contents.
-/
module

public import proofs.«01_k».proof.Proof.DetileKernelIdeal

@[expose] public section

noncomputable section

namespace Cert.Proof.KernelIdeal

open Cert.KernelIdeal Cert.KernelIdeal.Gen Cert.Proof.Steps

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 2) (Elt F) ℕ UU ℕ

/-- A half of the row buffer, and row `k` of the transposed buffer, as the tile names them. -/
abbrev slotRows (o : Fin 3 → Nat) (h : ∀ a, o a + S1x128x128.size a ≤ S2x128x128.size a) : Memref sig .scVector .vmem S128x128 .f32 :=
  ((Memref.whole cc1_scratch1).slice (Rect.unit (s := S2x128x128) o S1x128x128.size h) (fun _ => rfl)).squeeze S128x128 squeezes_S1x128x128_S128x128
/-- The first row buffer. -/
abbrev rows0 : Memref sig .scVector .vmem S128x128 .f32 := slotRows ![0, 0, 0] inb_S2x128x128_S1x128x128_0_0_0
/-- The second row buffer. -/
abbrev rows1 : Memref sig .scVector .vmem S128x128 .f32 := slotRows ![1, 0, 0] inb_S2x128x128_S1x128x128_1_0_0
/-- A row of the buffer the transposition writes. -/
abbrev trRow (o : Fin 2 → Nat) (h : ∀ a, o a + S1x128.size a ≤ S64x128.size a) : Memref sig .scVector .vmem S128 .f32 :=
  ((Memref.whole cc1_scratch2).slice (Rect.unit (s := S64x128) o S1x128.size h) (fun _ => rfl)).squeeze S128 squeezes_S1x128_S128

/-- Sixteen lanes of a row lie within it. -/
theorem lanes_inb (u : Fin 8) : ∀ a, (![16 * u.val] : Fin 1 → Nat) a + S16.size a ≤ S128.size a := by
  intro a
  match a with
  | ⟨0, _⟩ => show 16 * u.val + 16 ≤ 128; omega
/-- Sixteen lanes of a row, the `u`-th of eight. -/
abbrev lanes (u : Fin 8) : Rect S128 := Rect.unit (s := S128) ![16 * u.val] S16.size (lanes_inb u)

/-- Where lane `x` of the `u`-th sixteen of row `k` lies in the transposed buffer. -/
theorem lane_emb (o : Fin 2 → Nat) (h) (k : Fin 64) (ho : o = ![k.val, 0]) (u : Fin 8) (x : S16.Idx) :
    ((trRow o h).access (lanes u)).emb x = ix2 k (⟨16 * u.val + (x 0).val, by have : (x 0).val < 16 := (x 0).isLt; omega⟩ : Fin 128) := by
  subst ho
  show (Rect.unit (s := S64x128) ![k.val, 0] S1x128.size h).emb (Shape.reshapeEquiv _ ((lanes u).emb x)) = _
  rw [Shape.reshapeEquiv_cons_one (n := 1) (d := ![128])]
  funext a
  apply Fin.ext
  match a with
  | ⟨0, _⟩ => show k.val + 1 * 0 = k.val; omega
  | ⟨1, _⟩ => show 0 + 1 * (16 * u.val + 1 * (x 0).val) = 16 * u.val + (x 0).val; omega

/-- The transposed buffer after sixteen lanes are stored. -/
theorem lane_write (o : Fin 2 → Nat) (h) (k : Fin 64) (ho : o = ![k.val, 0]) (u : Fin 8) (w : S16.Idx → Elt F .f32)
    (f : S64x128.Idx → Elt F .f32) (G : S64x128.Idx → Elt F .f32)
    (hw : ∀ x : S16.Idx, w x = G (ix2 k (⟨16 * u.val + (x 0).val, by have : (x 0).val < 16 := (x 0).isLt; omega⟩ : Fin 128)))
    (hf : ∀ y, (y 0).val < k.val ∨ ((y 0).val = k.val ∧ (y 1).val < 16 * u.val) → f y = G y) :
    ∀ y : S64x128.Idx, (y 0).val < k.val ∨ ((y 0).val = k.val ∧ (y 1).val < 16 * (u.val + 1)) →
      ((trRow o h).access (lanes u)).write (Elt F) f w Finset.univ y = G y := by
  intro y hy
  by_cases hmem : y ∈ ((trRow o h).access (lanes u)).setOn Finset.univ
  · obtain ⟨x, -, rfl⟩ := Finset.mem_map.mp hmem
    rw [View.write_emb_of_mem _ _ (Finset.mem_univ _), lane_emb o h k ho u x]
    exact hw x
  · rw [View.write_of_not_mem _ _ _ hmem]
    apply hf
    rcases hy with hy | ⟨h0, h1⟩
    · exact .inl hy
    · refine .inr ⟨h0, ?_⟩
      by_contra hlt
      apply hmem
      refine Finset.mem_map.mpr ⟨ix1 (⟨(y 1).val - 16 * u.val, by omega⟩ : Fin 16), Finset.mem_univ _, ?_⟩
      rw [lane_emb o h k ho u]
      funext a
      apply Fin.ext
      match a with
      | ⟨0, _⟩ => exact h0.symm
      | ⟨1, _⟩ => show 16 * u.val + ((y 1).val - 16 * u.val) = (y 1).val; omega

section Prog

variable {cc : Fin τ.nSC} {ss : Fin τ.nSub} [FloatOps F]

/-- One sixteen of one row: the lanes' words are fetched down a column of the gathered rows and stored along the row. -/
def lanesProg (R : Memref sig .scVector .vmem S128x128 .f32) (v3 col : IVec S16 32) (o : Fin 2 → Nat)
    (h : ∀ a, o a + S1x128.size a ≤ S64x128.size a) (u : Fin 8) : Prog (TpuEff nD τ sig (Elt F) Λ₀ (.scVector cc ss)) PUnit := do
  have hw : k1_chk1 col (addi (broadcast S16 (BitVec.ofNat 32 (16 * u.val))) v3) :=
    (← Prog.lift (TpuEff.assume (k1_chk1 col (addi (broadcast S16 (BitVec.ofNat 32 (16 * u.val))) v3)) (k1_chk1.dec _ _))).down
  let v : Vec F S16 .f32 ← SparseCore.vectorLoadIdx R ![addi (broadcast S16 (BitVec.ofNat 32 (16 * u.val))) v3, col] hw (View.loads_vmem h_S128x128)
  let _ : Vec F S16 .f32 ← Prog.lift (.load (trRow o h) (lanes u).toLoadRect (View.loadsAt_vmem h_S16))
  Prog.lift (.store (trRow o h) (lanes u) v Finset.univ (View.stores_vmem_bits_univ h_S16 rfl) (.inl rfl))

/-- One row: its eight sixteens. -/
def rowProg (R : Memref sig .scVector .vmem S128x128 .f32) (v3 : IVec S16 32) (o : Fin 8 → Fin k1_t2_loop.trips → Fin 2 → Nat)
    (h : ∀ u k a, o u k a + S1x128.size a ≤ S64x128.size a) (k : Fin k1_t2_loop.trips) (_ : BitVec 32) :
    Prog (TpuEff nD τ sig (Elt F) Λ₀ (.scVector cc ss)) (BitVec 32) := do
  lanesProg R v3 (addi (broadcast S16 (Scf.iv 0#32 1#32 k)) (broadcast S16 0#32)) (o 0 k) (h 0 k) 0
  lanesProg R v3 (addi (broadcast S16 (Scf.iv 0#32 1#32 k)) (broadcast S16 0#32)) (o 1 k) (h 1 k) 1
  lanesProg R v3 (addi (broadcast S16 (Scf.iv 0#32 1#32 k)) (broadcast S16 0#32)) (o 2 k) (h 2 k) 2
  lanesProg R v3 (addi (broadcast S16 (Scf.iv 0#32 1#32 k)) (broadcast S16 0#32)) (o 3 k) (h 3 k) 3
  lanesProg R v3 (addi (broadcast S16 (Scf.iv 0#32 1#32 k)) (broadcast S16 0#32)) (o 4 k) (h 4 k) 4
  lanesProg R v3 (addi (broadcast S16 (Scf.iv 0#32 1#32 k)) (broadcast S16 0#32)) (o 5 k) (h 5 k) 5
  lanesProg R v3 (addi (broadcast S16 (Scf.iv 0#32 1#32 k)) (broadcast S16 0#32)) (o 6 k) (h 6 k) 6
  lanesProg R v3 (addi (broadcast S16 (Scf.iv 0#32 1#32 k)) (broadcast S16 0#32)) (o 7 k) (h 7 k) 7
  pure 0#32

end Prog

/-- The row a lane reads is its place in the row written. -/
theorem lane_row (v3 : IVec S16 32) (hv3 : ∀ x, (v3 x).toNat = (x 0).val) (u : Fin 8) (x : S16.Idx) :
    (addi (broadcast S16 (BitVec.ofNat 32 (16 * u.val))) v3 x).toNat = 16 * u.val + (x 0).val := by
  have hx : (x 0).val < 16 := (x 0).isLt
  show (BitVec.ofNat 32 (16 * u.val) + v3 x).toNat = _
  rw [BitVec.toNat_add, hv3, BitVec.toNat_ofNat]
  omega

/-- The column it reads is the number of the trip. -/
theorem lane_col : ∀ (k : Fin k1_t2_loop.trips), (Scf.iv 0#32 1#32 k + 0#32 : BitVec 32).toNat = k.val := by decide +kernel

variable [FloatOps F] {Q : PUnit → sProp (MT nD τ sig (HIx 2) (Elt F) ℕ UU ℕ)}

/-- Sixteen lanes of row `k` written: the transposed buffer agrees with the transposed rows that much further. -/
theorem lanes_step (d : Dev nD) (L : grid1.Coords) {α : Type} {Q : α → sProp 𝕄} (R : Memref sig .scVector .vmem S128x128 .f32) {v3 col : IVec S16 32}
    {o : Fin 2 → Nat} {h} (k : Fin 64) (ho : o = ![k.val, 0]) (u : Fin 8)
    {kk : PUnit → Prog (TpuEff nD τ sig (Elt F) Λ₀ (.scVector (cV1 L) (jV1 L))) α}
    (X : S128x128.Idx → Elt F .f32) (f : S64x128.Idx → Elt F .f32)
    (hv3 : ∀ x, (v3 x).toNat = (x 0).val) (hcol : ∀ x, (col x).toNat = k.val)
    (hf : ∀ y : S64x128.Idx, (y 0).val < k.val ∨ ((y 0).val = k.val ∧ (y 1).val < 16 * u.val) → f y = X (ix2 (y 1) ((y 0).castLE (by decide)))) :
    iprop(owns (tile1 d L) R fullShare X ∗ ((tile1 d L).loc cc1_scratch2 ↦{fullShare} f))
      ⊢ iprop((∀ f' : S64x128.Idx → Elt F .f32, ⌜∀ y : S64x128.Idx, (y 0).val < k.val ∨ ((y 0).val = k.val ∧ (y 1).val < 16 * (u.val + 1)) →
                f' y = X (ix2 (y 1) ((y 0).castLE (by decide)))⌝
              -∗ iprop(owns (tile1 d L) R fullShare X ∗ ((tile1 d L).loc cc1_scratch2 ↦{fullShare} f'))
              -∗ wp frame (wpE (defs₀ (F := F)) 𝒱₀ (tile1 d L) none) Set.univ (kk ⟨⟩) Q)
          -∗ wp frame (wpE (defs₀ (F := F)) 𝒱₀ (tile1 d L) none) Set.univ (lanesProg R v3 col o h u >>= kk) Q) := by
  have hchk : k1_chk1 col (addi (broadcast S16 (BitVec.ofNat 32 (16 * u.val))) v3) := by
    intro a x
    have hx : (x 0).val < 16 := (x 0).isLt
    match a with
    | ⟨0, _⟩ => show (addi (broadcast S16 (BitVec.ofNat 32 (16 * u.val))) v3 x).toNat < 128; rw [lane_row v3 hv3]; omega
    | ⟨1, _⟩ => show (col x).toNat < 128; rw [hcol]; omega
  have e : (lanesProg R v3 col o h u >>= kk)
      = .op (.assume (k1_chk1 col (addi (broadcast S16 (BitVec.ofNat 32 (16 * u.val))) v3)) (k1_chk1.dec _ _)) fun hw =>
          SparseCore.vectorLoadIdx R ![addi (broadcast S16 (BitVec.ofNat 32 (16 * u.val))) v3, col] hw.down (View.loads_vmem h_S128x128) >>= fun v =>
          .op (.load (trRow o h) (lanes u).toLoadRect (View.loadsAt_vmem h_S16)) fun _ =>
          .op (.store (trRow o h) (lanes u) v Finset.univ (View.stores_vmem_bits_univ h_S16 rfl) (.inl rfl)) kk := rfl
  have hwr := lane_write o h k ho u (loadIdx X ![addi (broadcast S16 (BitVec.ofNat 32 (16 * u.val))) v3, col] hchk) f
    (fun y => X (ix2 (y 1) ((y 0).castLE (by decide)))) (by
      intro x
      show X _ = X _
      congr 1
      funext a
      apply Fin.ext
      match a with
      | ⟨0, _⟩ => exact lane_row v3 hv3 u x
      | ⟨1, _⟩ => exact hcol x) hf
  rw [e]
  rw [wp_assume_of 𝒱₀ (tile1 d L) none Set.univ hchk]
  iintro ⟨HR, Hf⟩ Hk
  iapply (lanes_fetch 𝒱₀ (tile1 d L) none (base := R)) $$ HR
  iintro HR
  iapply (wp_load 𝒱₀ (tile1 d L) none Set.univ (S := Finset.univ) (f := f) (m := trRow o h) (Finset.subset_univ _)) $$ Hf
  iintro Hf
  iapply (wp_store 𝒱₀ (tile1 d L) none Set.univ (S := Finset.univ) (f := f) (m := trRow o h) (r := lanes u) (Mk := Finset.univ) (Finset.subset_univ _)) $$ Hf
  iintro Hf
  iapply Hk $$ [] [HR Hf]
  · ipureintro
    exact hwr
  isplitl [HR]; · iexact HR
  iexact Hf

/-- The transposed buffer holding the rows below `k` of the transposed `X`. -/
def trUpTo (X : S128x128.Idx → Elt F .f32) (k : Nat) (f : S64x128.Idx → Elt F .f32) : Prop :=
  ∀ y : S64x128.Idx, (y 0).val < k → f y = X (ix2 (y 1) ((y 0).castLE (by decide)))

/-- One row written. -/
theorem row_loop_step (d : Dev nD) (L : grid1.Coords) (R : Memref sig .scVector .vmem S128x128 .f32) {v3 : IVec S16 32}
    {o : Fin 8 → Fin k1_t2_loop.trips → Fin 2 → Nat} {h : ∀ u k a, o u k a + S1x128.size a ≤ S64x128.size a}
    (ho : ∀ u k, o u k = ![k.val, 0]) (hv3 : ∀ x, (v3 x).toNat = (x 0).val) (X : S128x128.Idx → Elt F .f32)
    (k : Fin k1_t2_loop.trips) (acc : BitVec 32) :
    (iprop(owns (tile1 d L) R fullShare X ∗ ∃ f, ⌜trUpTo X k.val f⌝ ∗ ((tile1 d L).loc cc1_scratch2 ↦{fullShare} f)) : sProp 𝕄)
      ⊢ wp frame (wpE (defs₀ (F := F)) 𝒱₀ (tile1 d L) none) Set.univ
        (rowProg (cc := cV1 L) (ss := jV1 L) R v3 o h k acc)
        fun _ => iprop(owns (tile1 d L) R fullShare X ∗ ∃ f, ⌜trUpTo X (k.val + 1) f⌝ ∗ ((tile1 d L).loc cc1_scratch2 ↦{fullShare} f)) := by
  have hk : k.val < 64 := lt_of_lt_of_eq k.isLt (by decide)
  have hc : ∀ x : S16.Idx, (addi (broadcast S16 (Scf.iv 0#32 1#32 k)) (broadcast S16 0#32) x).toNat = k.val := fun _ => lane_col k
  unfold rowProg
  iintro ⟨HR, %f0, %hf0, Hf⟩
  iapply (lanes_step d L R ⟨k.val, hk⟩ (ho 0 k) 0 X f0 hv3 hc
    (fun y hy => hf0 y (hy.resolve_right fun hy => by have := hy.2; simp at this))) $$ [HR Hf]
  · isplitl [HR] <;> iassumption
  iintro %f1 %h1 ⟨HR, Hf⟩
  iapply (lanes_step d L R ⟨k.val, hk⟩ (ho 1 k) 1 X f1 hv3 hc h1) $$ [HR Hf]
  · isplitl [HR] <;> iassumption
  iintro %f2 %h2 ⟨HR, Hf⟩
  iapply (lanes_step d L R ⟨k.val, hk⟩ (ho 2 k) 2 X f2 hv3 hc h2) $$ [HR Hf]
  · isplitl [HR] <;> iassumption
  iintro %f3 %h3 ⟨HR, Hf⟩
  iapply (lanes_step d L R ⟨k.val, hk⟩ (ho 3 k) 3 X f3 hv3 hc h3) $$ [HR Hf]
  · isplitl [HR] <;> iassumption
  iintro %f4 %h4 ⟨HR, Hf⟩
  iapply (lanes_step d L R ⟨k.val, hk⟩ (ho 4 k) 4 X f4 hv3 hc h4) $$ [HR Hf]
  · isplitl [HR] <;> iassumption
  iintro %f5 %h5 ⟨HR, Hf⟩
  iapply (lanes_step d L R ⟨k.val, hk⟩ (ho 5 k) 5 X f5 hv3 hc h5) $$ [HR Hf]
  · isplitl [HR] <;> iassumption
  iintro %f6 %h6 ⟨HR, Hf⟩
  iapply (lanes_step d L R ⟨k.val, hk⟩ (ho 6 k) 6 X f6 hv3 hc h6) $$ [HR Hf]
  · isplitl [HR] <;> iassumption
  iintro %f7 %h7 ⟨HR, Hf⟩
  iapply (lanes_step d L R ⟨k.val, hk⟩ (ho 7 k) 7 X f7 hv3 hc h7) $$ [HR Hf]
  · isplitl [HR] <;> iassumption
  iintro %f8 %h8 ⟨HR, Hf⟩
  rw [wp_pure]
  imodintro
  isplitl [HR]; · iexact HR
  iexists f8
  isplitr
  swap; · iexact Hf
  ipureintro
  intro y hy
  have hy1 : (y 1).val < 128 := (y 1).isLt
  apply h8
  rcases Nat.lt_succ_iff_lt_or_eq.mp hy with hlt | heq
  · exact .inl hlt
  · exact .inr ⟨heq, hy1⟩

/-- THE TRANSPOSING LOOP: the second buffer ends up holding the transposed rows, whatever it held before. -/
theorem transpose_loop (d : Dev nD) (L : grid1.Coords) {α : Type} {Q : α → sProp 𝕄} (R : Memref sig .scVector .vmem S128x128 .f32) {v3 : IVec S16 32}
    {o : Fin 8 → Fin k1_t2_loop.trips → Fin 2 → Nat} {h : ∀ u k a, o u k a + S1x128.size a ≤ S64x128.size a}
    (ho : ∀ u k, o u k = ![k.val, 0]) (hv3 : ∀ x, (v3 x).toNat = (x 0).val) (X : S128x128.Idx → Elt F .f32)
    {init : BitVec 32} {body : Fin k1_t2_loop.trips → BitVec 32 → Prog (TpuEff nD τ sig (Elt F) Λ₀ (.scVector (cV1 L) (jV1 L))) (BitVec 32)}
    (hbody : body = rowProg (cc := cV1 L) (ss := jV1 L) R v3 o h)
    {kk : BitVec 32 → Prog (TpuEff nD τ sig (Elt F) Λ₀ (.scVector (cV1 L) (jV1 L))) α} {Y : S64x128.Idx → Elt F .f32} :
    iprop(owns (tile1 d L) R fullShare X ∗ owns (tile1 d L) (Memref.whole cc1_scratch2) fullShare Y)
      ⊢ iprop((∀ acc, iprop(owns (tile1 d L) R fullShare X
                ∗ owns (tile1 d L) (Memref.whole cc1_scratch2) fullShare (fun y : S64x128.Idx => X (ix2 (y 1) ((y 0).castLE (by decide)))))
              -∗ wp frame (wpE (defs₀ (F := F)) 𝒱₀ (tile1 d L) none) Set.univ (kk acc) Q)
          -∗ wp frame (wpE (defs₀ (F := F)) 𝒱₀ (tile1 d L) none) Set.univ (Scf.Loop.for k1_t2_loop k1_t2_ok init body >>= kk) Q) := by
  subst hbody
  iintro ⟨HR, Hf⟩ Hk
  iapply (Scf.wp_for_bind frame (wpE (defs₀ (F := F)) 𝒱₀ (tile1 d L) none) Set.univ k1_t2_loop.lb k1_t2_loop.ub k1_t2_loop.st k1_t2_ok init
    (rowProg (cc := cV1 L) (ss := jV1 L) R v3 o h)
    (fun k _ => iprop(owns (tile1 d L) R fullShare X ∗ ∃ f, ⌜trUpTo X k f⌝ ∗ ((tile1 d L).loc cc1_scratch2 ↦{fullShare} f)))
    (fun k acc => row_loop_step d L R ho hv3 X k acc)) $$ [HR Hf]
  · isplitl [HR]; · iexact HR
    iexists Y
    isplitr; · ipureintro; intro y hy; exact absurd hy (Nat.not_lt_zero _)
    iapply (Entails.of_eq (owns_whole (tile1 d L) cc1_scratch2 fullShare Y))
    iexact Hf
  iintro %acc ⟨HR, %f, %hf, Hf⟩
  iapply Hk
  isplitl [HR]; · iexact HR
  have e : f = (fun y : S64x128.Idx => X (ix2 (y 1) ((y 0).castLE (by decide)))) := funext fun y => hf y (lt_of_lt_of_eq (y 0).isLt (by decide))
  rw [← e]
  iapply (Entails.of_eq (owns_whole (tile1 d L) cc1_scratch2 fullShare f).symm)
  iexact Hf

end Cert.Proof.KernelIdeal

end
-- ==== Proof.BlocksKernelIdeal.lean ====
/-
  The blocks of the second call: a tile handles 200 blocks of 128 list words. What a block's words are, what table rows
  they name, where the block's transposed rows lie in the output; and the steps of a block's handling, each stated
  once over the half of the tile's buffers it works in.
-/
module

public import proofs.«01_k».proof.Proof.TransposeKernelIdeal

@[expose] public section

noncomputable section

namespace Cert.Proof.KernelIdeal

open Cert.KernelIdeal Cert.KernelIdeal.Gen Cert.Proof.Steps

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 2) (Elt F) ℕ UU ℕ

/-! ## The values of a block -/

/-- Word `n` of the list (the list's places counted around). -/
def wordAt (l : S819200.Idx → Elt F .i32) (n : Nat) : Elt F .i32 := l (ix1 ⟨n % 819200, by omega⟩)
/-- The words of a block, and the table rows they name. -/
def wordsOf (l : S819200.Idx → Elt F .i32) (b : Nat) : S128.Idx → Elt F .i32 := fun x => wordAt l (128 * b + (x 0).val)
/-- The 128 table rows that block `b` of the list names. -/
def rowsOf (l : S819200.Idx → Elt F .i32) (tb : S1000000x128.Idx → Elt F .f32) (b : Nat) : S128x128.Idx → Elt F .f32 :=
  fun y => tb (ix2 (rowOf (wordAt l (128 * b + (y 0).val))) (y 1))
/-- The output is the kernel's on the entries of a tile's part below block `b`. -/
def OutUpTo (i : grid1.Coords) (l : S819200.Idx → Elt F .i32) (tb : S1000000x128.Idx → Elt F .f32) (b : Nat)
    (f : S50x64x16384.Idx → Elt F .f32) : Prop :=
  ∀ x ∈ outSet i, 128 * (x 0).val + (x 2).val / 128 < b → f x = outOf l tb x

/-! ## The memrefs of a block -/

/-- A half of the list buffer; the list's words of a block; the table; a block's place in the output. -/
abbrev slotIdx (o : Fin 2 → Nat) (h : ∀ a, o a + S1x128.size a ≤ S2x128.size a) : Memref sig .scVector .vmem S128 .i32 :=
  ((Memref.whole cc1_scratch0).slice (Rect.unit (s := S2x128) o S1x128.size h) (fun _ => rfl)).squeeze S128 squeezes_S1x128_S128
/-- The first index buffer. -/
abbrev idx0 : Memref sig .scVector .vmem S128 .i32 := slotIdx ![0, 0] inb_S2x128_S1x128_0_0
/-- The second index buffer. -/
abbrev idx1 : Memref sig .scVector .vmem S128 .i32 := slotIdx ![1, 0] inb_S2x128_S1x128_1_0
/-- A block of 128 list words in the list. -/
abbrev listRef (o : Fin 1 → Nat) (h : ∀ a, o a + S128.size a ≤ S819200.size a) : Memref sig .scVector .hbm S128 .i32 :=
  (Memref.whole main_v1_scv).slice (Rect.unit (s := S819200) o S128.size h) (fun _ => rfl)
/-- The table as the indirect copy reads it. -/
abbrev tabRef : Memref sig .scVector .hbm S1000000x128 .f32 :=
  (Memref.whole main_v2_scv).slice (Rect.unit (s := S1000000x128) ![0, 0] S1000000x128.size inb_S1000000x128_S1000000x128_0_0) (fun _ => rfl)
/-- A block of 64 by 128 of the output. -/
abbrev outRef (o : Fin 3 → Nat) (h : ∀ a, o a + S1x64x16384.size a ≤ S50x64x16384.size a) (o' : Fin 2 → Nat)
    (h' : ∀ a, o' a + S64x128.size a ≤ S64x16384.size a) : Memref sig .scVector .hbm S64x128 .f32 :=
  (((Memref.whole main_v3_scv).slice (Rect.unit (s := S50x64x16384) o S1x64x16384.size h) (fun _ => rfl)).squeeze S64x16384
    squeezes_S1x64x16384_S64x16384).slice (Rect.unit (s := S64x16384) o' S64x128.size h') (fun _ => rfl)

/-- The list words read for block `b` are its words. -/
theorem listRef_read (o : Fin 1 → Nat) (h) (b : Nat) (hb : b < 6400) (ho : o = ![128 * b]) (l : S819200.Idx → Elt F .i32) :
    (listRef o h).view.read (Elt F) l = wordsOf l b := by
  subst ho
  funext x
  rw [View.read_apply]
  have hx : (x 0).val < 128 := (x 0).isLt
  show l ((Rect.unit (s := S819200) ![128 * b] S128.size h).emb x) = l (ix1 _)
  congr 1
  funext a
  apply Fin.ext
  match a with
  | ⟨0, _⟩ => show 128 * b + 1 * (x 0).val = (128 * b + (x 0).val) % 819200; omega

/-- The table as the gather reads it is the table. -/
theorem tabRef_read (tb : S1000000x128.Idx → Elt F .f32) : tabRef.view.read (Elt F) tb = tb := by
  funext x
  rw [View.read_apply]
  show tb ((Rect.unit (s := S1000000x128) ![0, 0] S1000000x128.size _).emb x) = _
  congr 1
  funext a
  apply Fin.ext
  match a with
  | ⟨0, _⟩ => show 0 + 1 * (x 0).val = (x 0).val; omega
  | ⟨1, _⟩ => show 0 + 1 * (x 1).val = (x 1).val; omega

/-- The list's places in order are the list's indices. -/
theorem place_S128 (k : Fin S128.numel) : (S128.rowMajor.symm k 0).val = k.val := by
  revert k; decide +kernel

/-- What the gather of block `b` brings: the table rows its words name. -/
theorem gather_rows (l : S819200.Idx → Elt F .i32) (tb : S1000000x128.Idx → Elt F .f32) (b : Nat) (hn)
    (hin : ∀ x, (wordsOf l b x).toNat < S1000000x128.size gathers_S1000000x128_S128x128.axis) :
    SparseCore.gatherPayload gathers_S1000000x128_S128x128 (tabRef.view.read (Elt F) tb) (SparseCore.rows (wordsOf l b) hn hin) = rowsOf l tb b := by
  rw [tabRef_read]
  funext y
  show tb _ = tb (ix2 _ _)
  congr 1
  funext a
  apply Fin.ext
  match a with
  | ⟨0, _⟩ =>
    refine (congrArg Fin.val (Shape.Gathers.idx_axis gathers_S1000000x128_S128x128 _ y)).trans ?_
    show (wordsOf l b _).toNat = _ % 1000000
    have hw : ((wordAt l (128 * b + (y 0).val) : BitVec 32)).toNat < 1000000 := hin (ix1 (y 0))
    rw [Nat.mod_eq_of_lt hw]
    show (wordAt l (128 * b + (S128.rowMajor.symm _ 0).val) : BitVec 32).toNat = _
    rw [place_S128]
    rfl
  | ⟨1, _⟩ => exact Shape.Gathers.idx_of_ne gathers_S1000000x128_S128x128 _ y ⟨1, by decide⟩ (by decide)

/-- Where entry `y` of block `b` lies in the output. -/
theorem outRef_emb (o h o' h') (b : Nat) (hb : b < 6400) (ho : o = ![b / 128, 0, 0]) (ho' : o' = ![0, 128 * (b % 128)]) (y : S64x128.Idx) :
    (outRef o h o' h').view.emb y = ix3 (⟨b / 128, by omega⟩ : Fin 50) (y 0) (⟨128 * (b % 128) + (y 1).val, by have : (y 1).val < 128 := (y 1).isLt; omega⟩ : Fin 16384) := by
  subst ho ho'
  show (Rect.unit (s := S50x64x16384) ![b / 128, 0, 0] S1x64x16384.size h).emb (Shape.reshapeEquiv _ ((Rect.unit (s := S64x16384) ![0, 128 * (b % 128)] S64x128.size h').emb y)) = _
  rw [Shape.reshapeEquiv_cons_one (n := 2) (d := ![64, 16384])]
  funext a
  apply Fin.ext
  match a with
  | ⟨0, _⟩ => show b / 128 + 1 * 0 = b / 128; omega
  | ⟨1, _⟩ => show 0 + 1 * (0 + 1 * (y 0).val) = (y 0).val; omega
  | ⟨2, _⟩ => show 0 + 1 * (128 * (b % 128) + 1 * (y 1).val) = 128 * (b % 128) + (y 1).val; omega

/-- Block `b`'s place in the output is the tile's. -/
theorem outRef_subset (i : grid1.Coords) (o h o' h') (b : Nat) (hb : b < 6400) (ho : o = ![b / 128, 0, 0]) (ho' : o' = ![0, 128 * (b % 128)])
    (hi : b / 200 = 2 * (i 1).val + (i 0).val) : (outRef o h o' h').view.set ⊆ outSet i := by
  intro x hx
  obtain ⟨y, -, rfl⟩ := Finset.mem_map.mp hx
  refine Finset.mem_filter.mpr ⟨Finset.mem_univ _, ?_⟩
  have hy : (y 1).val < 128 := (y 1).isLt
  have e := outRef_emb o h o' h' b hb ho ho' y
  have e0 : ((outRef o h o' h').view.emb y 0).val = b / 128 := congrArg (fun z : S50x64x16384.Idx => (z 0).val) e
  have e2 : ((outRef o h o' h').view.emb y 2).val = 128 * (b % 128) + (y 1).val := congrArg (fun z : S50x64x16384.Idx => (z 2).val) e
  show (128 * ((outRef o h o' h').view.emb y 0).val + ((outRef o h o' h').view.emb y 2).val / 128) / 200 = _
  rw [e0, e2]
  omega

/-- The output after block `b` is written over an output right below it: right through block `b`. -/
theorem outRef_write (i : grid1.Coords) (o h o' h') (b : Nat) (hb : b < 6400) (ho : o = ![b / 128, 0, 0]) (ho' : o' = ![0, 128 * (b % 128)])
    (l : S819200.Idx → Elt F .i32) (tb : S1000000x128.Idx → Elt F .f32) (f : S50x64x16384.Idx → Elt F .f32) (hf : OutUpTo i l tb b f) :
    OutUpTo i l tb (b + 1) ((outRef o h o' h').view.write (Elt F) f (fun y => rowsOf l tb b (ix2 (y 1) ((y 0).castLE (by decide)))) Finset.univ) := by
  intro x hx hlt
  have h2 : (x 2).val < 16384 := (x 2).isLt
  have h0 : (x 0).val < 50 := (x 0).isLt
  by_cases hmem : x ∈ (outRef o h o' h').view.set
  · obtain ⟨y, -, rfl⟩ := Finset.mem_map.mp hmem
    rw [View.write_emb_of_mem _ _ (Finset.mem_univ _), outRef_emb o h o' h' b hb ho ho' y]
    have hy : (y 1).val < 128 := (y 1).isLt
    have e : (128 * b + (y 1).val) % 819200 = 16384 * (b / 128) + (128 * (b % 128) + (y 1).val) := by omega
    show tb (ix2 (rowOf (l (ix1 ⟨(128 * b + (y 1).val) % 819200, _⟩))) ⟨(y 0).val, _⟩)
      = tb (ix2 (rowOf (l (ix1 ⟨16384 * (b / 128) + (128 * (b % 128) + (y 1).val), _⟩))) ⟨(y 0).val, _⟩)
    simp only [e]
  · rw [View.write_of_not_mem _ _ _ hmem]
    apply hf x hx
    rcases Nat.lt_or_ge (128 * (x 0).val + (x 2).val / 128) b with hb' | hb'
    · exact hb'
    · exfalso
      apply hmem
      refine Finset.mem_map.mpr ⟨ix2 (x 1) (⟨(x 2).val % 128, by omega⟩ : Fin 128), Finset.mem_univ _, ?_⟩
      rw [outRef_emb o h o' h' b hb ho ho']
      funext a
      apply Fin.ext
      match a with
      | ⟨0, _⟩ => show b / 128 = (x 0).val; omega
      | ⟨1, _⟩ => rfl
      | ⟨2, _⟩ => show 128 * (b % 128) + (x 2).val % 128 = (x 2).val; omega

/-! ## The steps of a block -/

/-- What a gather into a half of the row buffer signals, what a fetch into a half of the list buffer does. -/
abbrev NR : Nat := Ref.dmaCredit cc1_scratch1 S128x128 .f32
/-- The credit of an index copy. -/
abbrev NI : Nat := Ref.dmaCredit cc1_scratch0 S128 .i32

/-- The gather of block `b` in flight; the fetch of its words in flight. -/
abbrev GatherFlight (d : Dev nD) (L : grid1.Coords) (s : DmaSem sig) (R : Memref sig .scVector .vmem S128x128 .f32) (I : Memref sig .scVector .vmem S128 .i32)
    (q : PosShare TreeShare) (l : S819200.Idx → Elt F .i32) (tb : S1000000x128.Idx → Elt F .f32) (b : Nat) : sProp 𝕄 :=
  Transfers.Flight countersEmb (tile1 d L) (.dma s) (default : HIx 2) NR
    iprop(owns (tile1 d L) R fullShare (rowsOf l tb b) ∗ (tbLoc d ↦{q} tb) ∗ owns (tile1 d L) I fullShare (wordsOf l b))
/-- An index copy under way, with the words it will bring. -/
abbrev FetchFlight (d : Dev nD) (L : grid1.Coords) (s : DmaSem sig) (I : Memref sig .scVector .vmem S128 .i32)
    (q : PosShare TreeShare) (l : S819200.Idx → Elt F .i32) (b : Nat) : sProp 𝕄 :=
  Transfers.Flight countersEmb (tile1 d L) (.dma s) (default : HIx 2) NI
    iprop(owns (tile1 d L) I fullShare (wordsOf l b) ∗ (ixLoc d ↦{q} l))

variable [FloatOps F] {α : Type} {Q : α → sProp (MT nD τ sig (HIx 2) (Elt F) ℕ UU ℕ)}

/-- A block's words fetched into a half of the list buffer. -/
theorem fetch_step (d : Dev nD) (L : grid1.Coords) {o : Fin 1 → Nat} {h} {oI hI} {s : DmaSem sig} (b : Nat) (hb : b < 6400) (ho : o = ![128 * b])
    {hs₁ : (listRef o h).view.WordExact} {hd₁ : (slotIdx oI hI).view.WordExact}
    {ht₁ : DmaTarget.Typed (nD := nD) (τ := τ) .hbm (.dma s) (DmaTarget.here (p := Proc.scVector (cV1 L) (jV1 L)) (slotIdx oI hI))}
    {k : PUnit → Prog (TpuEff nD τ sig (Elt F) Λ₀ (.scVector (cV1 L) (jV1 L))) α}
    {q : PosShare TreeShare} {l : S819200.Idx → Elt F .i32} {Y : S128.Idx → Elt F .i32} :
    iprop((ixLoc d ↦{q} l) ∗ owns (tile1 d L) (slotIdx oI hI) fullShare Y ∗ semVal (tile1 d L, .dma s) 0)
      ⊢ iprop((FetchFlight d L s (slotIdx oI hI) q l b
            -∗ wp frame (wpE (defs₀ (F := F)) 𝒱₀ (tile1 d L) none) Set.univ (k ⟨⟩) Q)
          -∗ wp frame (wpE (defs₀ (F := F)) 𝒱₀ (tile1 d L) none) Set.univ
            (.op (.enqueueDma (listRef o h) (.here (slotIdx oI hI)) (.dma s) hs₁ hd₁ ht₁) k) Q) :=
  copy_issue_owns countersEmb 𝒱₀ (tile1 d L) none (default : HIx 2) NI rfl (by decide) (src := listRef o h) (dst := slotIdx oI hI) (sm := .dma s)
    (Finset.subset_univ _) (listRef_read o h b hb ho l)

/-- The gather of block `b` started, its words lying in a half of the list buffer. -/
theorem gather_step (d : Dev nD) (L : grid1.Coords) {oR hR oI hI} {s : DmaSem sig} (b : Nat) {l : S819200.Idx → Elt F .i32}
    (hl : ∀ y, (l y : BitVec 32).toNat < 1000000)
    {hn hp hsrc he hsp hr}
    {k : PUnit → Prog (TpuEff nD τ sig (Elt F) Λ₀ (.scVector (cV1 L) (jV1 L))) α}
    {q : PosShare TreeShare} {tb : S1000000x128.Idx → Elt F .f32} {Y : S128x128.Idx → Elt F .f32} :
    iprop((tbLoc d ↦{q} tb) ∗ owns (tile1 d L) (slotRows oR hR) fullShare Y ∗ owns (tile1 d L) (slotIdx oI hI) fullShare (wordsOf l b)
        ∗ semVal (tile1 d L, .dma s) 0)
      ⊢ iprop((GatherFlight d L s (slotRows oR hR) (slotIdx oI hI) q l tb b
            -∗ wp frame (wpE (defs₀ (F := F)) 𝒱₀ (tile1 d L) none) Set.univ (k ⟨⟩) Q)
          -∗ wp frame (wpE (defs₀ (F := F)) 𝒱₀ (tile1 d L) none) Set.univ
            (SparseCore.enqueueIndirectGather hp tabRef (slotRows oR hR) gathers_S1000000x128_S128x128 (slotIdx oI hI) hn s hsrc he hsp hr >>= k) Q) := by
  have hin : ∀ x, (wordsOf l b x).toNat < S1000000x128.size gathers_S1000000x128_S128x128.axis := fun x => hl _
  exact gather_issue countersEmb 𝒱₀ (tile1 d L) none (default : HIx 2) NR
    (SparseCore.sum_rowCredit_eq_dmaCredit (slotRows oR hR) _ (fun _ => rfl)) (src := tabRef) (dst := slotRows oR hR) (offs := slotIdx oI hI)
    h_S128x128 hin (Finset.subset_univ _) (gather_rows l tb b hn hin)

/-- The gather of one block ended and the next one's, whose words had been fetched, begun. -/
theorem advance (d : Dev nD) (L : grid1.Coords) {oR hR oI hI oR' hR' oI' hI'} {sA sB sC : DmaSem sig} (b b' : Nat) {l : S819200.Idx → Elt F .i32}
    (hl : ∀ y, (l y : BitVec 32).toNat < 1000000) {O : CellTallies nD τ sig (HIx 2)} {W : Waits sig (HIx 2)}
    {srcw : Memref sig .scVector .hbm S128 .i32} {hw₁ hw₂ hw₃ hw₄}
    {hn hp hsrc he hsp hr}
    {k : PUnit → Prog (TpuEff nD τ sig (Elt F) Λ₀ (.scVector (cV1 L) (jV1 L))) α}
    {q q' : PosShare TreeShare} {tb : S1000000x128.Idx → Elt F .f32} {Y : S128x128.Idx → Elt F .f32} :
    iprop(Transfers.MayWaits (tile1 d L) (default : HIx 2) O
        ∗ GatherFlight d L sA (slotRows oR hR) (slotIdx oI hI) q l tb b
        ∗ FetchFlight d L sB (slotIdx oI' hI') q' l b'
        ∗ owns (tile1 d L) (slotRows oR' hR') fullShare Y
        ∗ semVal (tile1 d L, .dma sC) 0 ∗ owing (tile1 d L) (default : HIx 2) O W)
      ⊢ iprop((iprop(owns (tile1 d L) (slotRows oR hR) fullShare (rowsOf l tb b) ∗ owns (tile1 d L) (slotIdx oI hI) fullShare (wordsOf l b)
              ∗ (ixLoc d ↦{q'} l) ∗ semVal (tile1 d L, .dma sA) 0 ∗ semVal (tile1 d L, .dma sB) 0
              ∗ GatherFlight d L sC (slotRows oR' hR') (slotIdx oI' hI') q l tb b'
              ∗ owing (tile1 d L) (default : HIx 2) O W)
            -∗ wp frame (wpE (defs₀ (F := F)) 𝒱₀ (tile1 d L) none) Set.univ (k ⟨⟩) Q)
          -∗ wp frame (wpE (defs₀ (F := F)) 𝒱₀ (tile1 d L) none) Set.univ
            (.op (.waitDma2 sA tabRef (slotRows oR hR) hw₁ hw₂) fun _ =>
              .op (.waitDma2 sB srcw (slotIdx oI' hI') hw₃ hw₄) fun _ =>
              SparseCore.enqueueIndirectGather hp tabRef (slotRows oR' hR') gathers_S1000000x128_S128x128 (slotIdx oI' hI') hn sC hsrc he hsp hr >>= k) Q) := by
  iintro ⟨#Hmw, HG, HF, HR', HC, HO⟩ Hk
  iapply (wait_step countersEmb 𝒱₀ (tile1 d L) none (default : HIx 2) (N := NR) rfl) $$ [HG HO]
  · isplitr; · iexact Hmw
    isplitl [HG]; · iexact HG
    iexact HO
  iintro ⟨⟨HR, Htb, HI⟩, HA, HO⟩
  iapply (wait_step countersEmb 𝒱₀ (tile1 d L) none (default : HIx 2) (N := NI) rfl) $$ [HF HO]
  · isplitr; · iexact Hmw
    isplitl [HF]; · iexact HF
    iexact HO
  iintro ⟨⟨HI', Hix⟩, HB, HO⟩
  iapply (gather_step d L b' hl) $$ [Htb HR' HI' HC]
  · isplitl [Htb]; · iexact Htb
    isplitl [HR']; · iexact HR'
    isplitl [HI']; · iexact HI'
    iexact HC
  iintro HG
  iapply Hk
  isplitl [HR]; · iexact HR
  isplitl [HI]; · iexact HI
  isplitl [Hix]; · iexact Hix
  isplitl [HA]; · iexact HA
  isplitl [HB]; · iexact HB
  isplitl [HG]; · iexact HG
  iexact HO

/-- A block's rows, transposed and written to the output. -/
theorem emit (d : Dev nD) (L : grid1.Coords) {oR hR} {s : DmaSem sig} (b : Nat) (hb : b < 6400) (hi : b / 200 = 2 * (L 1).val + (L 0).val)
    {O : CellTallies nD τ sig (HIx 2)} {W : Waits sig (HIx 2)}
    {v3 : IVec S16 32} {ot : Fin 8 → Fin k1_t2_loop.trips → Fin 2 → Nat} {ht} (hot : ∀ u k, ot u k = ![k.val, 0]) (hv3 : ∀ x, (v3 x).toNat = (x 0).val)
    {init : BitVec 32} {body} (hbody : body = rowProg (F := F) (cc := cV1 L) (ss := jV1 L) (slotRows oR hR) v3 ot ht)
    {o h o' h'} (ho : o = ![b / 128, 0, 0]) (ho' : o' = ![0, 128 * (b % 128)])
    {hs₁ : (Memref.whole cc1_scratch2).view.WordExact} {hd₁ : (outRef o h o' h').view.WordExact}
    {ht₁ : DmaTarget.Typed (nD := nD) (τ := τ) .vmem (.dma s) (DmaTarget.here (p := Proc.scVector (cV1 L) (jV1 L)) (outRef o h o' h'))} {hw₁ hw₂}
    {k : PUnit → Prog (TpuEff nD τ sig (Elt F) Λ₀ (.scVector (cV1 L) (jV1 L))) α}
    {l : S819200.Idx → Elt F .i32} {tb : S1000000x128.Idx → Elt F .f32} {Y : S64x128.Idx → Elt F .f32} {f : S50x64x16384.Idx → Elt F .f32}
    (hf : OutUpTo L l tb b f) :
    iprop(Transfers.MayWaits (tile1 d L) (default : HIx 2) O
        ∗ owns (tile1 d L) (slotRows oR hR) fullShare (rowsOf l tb b) ∗ owns (tile1 d L) (Memref.whole cc1_scratch2) fullShare Y
        ∗ (outLoc d ↦[outSet L]{fullShare} f) ∗ semVal (tile1 d L, .dma s) 0 ∗ owing (tile1 d L) (default : HIx 2) O W)
      ⊢ iprop((∀ f', ⌜OutUpTo L l tb (b + 1) f'⌝ -∗ iprop(owns (tile1 d L) (slotRows oR hR) fullShare (rowsOf l tb b)
              ∗ (∃ Y, owns (tile1 d L) (Memref.whole cc1_scratch2) fullShare Y)
              ∗ (outLoc d ↦[outSet L]{fullShare} f') ∗ semVal (tile1 d L, .dma s) 0 ∗ owing (tile1 d L) (default : HIx 2) O W)
            -∗ wp frame (wpE (defs₀ (F := F)) 𝒱₀ (tile1 d L) none) Set.univ (k ⟨⟩) Q)
          -∗ wp frame (wpE (defs₀ (F := F)) 𝒱₀ (tile1 d L) none) Set.univ
            (Scf.Loop.for k1_t2_loop k1_t2_ok init body >>= fun _ =>
              .op (.enqueueDma (Memref.whole cc1_scratch2) (.here (outRef o h o' h')) (.dma s) hs₁ hd₁ ht₁) fun _ =>
              .op (.waitDma2 s (Memref.whole cc1_scratch2) (outRef o h o' h') hw₁ hw₂) k) Q) := by
  iintro ⟨#Hmw, HR, HT, Hf, Hs, HO⟩ Hk
  iapply (transpose_loop d L (slotRows oR hR) hot hv3 (rowsOf l tb b) hbody) $$ [HR HT]
  · isplitl [HR] <;> iassumption
  iintro %acc ⟨HR, HT⟩
  iapply (copy_out countersEmb 𝒱₀ (tile1 d L) none (default : HIx 2) (Ref.dmaCredit main_v3_scv S64x128 .f32) rfl
    (by decide) (src := Memref.whole cc1_scratch2) (sm := .dma s) (dst := outRef o h o' h') (Sd := outSet L) (outRef_subset L o h o' h' b hb ho ho' hi)) $$ [Hf HT Hs]
  · isplitl [HT]; · iexact HT
    isplitl [Hf]; · iexact Hf
    iexact Hs
  iintro Hfl
  iapply (wait_step countersEmb 𝒱₀ (tile1 d L) none (default : HIx 2) (N := Ref.dmaCredit main_v3_scv S64x128 .f32) rfl) $$ [Hfl HO]
  · isplitr; · iexact Hmw
    isplitl [Hfl]; · iexact Hfl
    iexact HO
  iintro ⟨⟨Hf, HT⟩, Hs, HO⟩
  iapply Hk $$ [] [HR HT Hf Hs HO]
  · ipureintro
    exact outRef_write L o h o' h' b hb ho ho' l tb f hf
  isplitl [HR]; · iexact HR
  isplitl [HT]; · iexists _; iexact HT
  isplitl [Hf]; · iexact Hf
  isplitl [Hs]; · iexact Hs
  iexact HO

end Cert.Proof.KernelIdeal

end
-- ==== Proof.GatherKernelIdeal.lean ====
/-
  The second call's body on one tile: 200 blocks of list words, two at a time, the fetch of the next block's words and the
  gather of the next block's rows in flight while a block is transposed and written.
-/
module

public import proofs.«01_k».proof.Proof.BlocksKernelIdeal

@[expose] public section

noncomputable section

namespace Cert.Proof.KernelIdeal

open Cert.KernelIdeal Cert.KernelIdeal.Gen Cert.Proof.Steps

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
local notation "𝕄" => MT nD τ sig (HIx 2) (Elt F) ℕ UU ℕ

/-- The row the loop writes at each of its eight stores of a trip. -/
abbrev toff2 : Fin 8 → Fin k1_t2_loop.trips → Fin 2 → Nat := ![k1_off3, k1_off4, k1_off5, k1_off6, k1_off7, k1_off8, k1_off9, k1_off10]
/-- The first transposition stores row `k` at row `k`. -/
theorem toff2_eq : ∀ u k, toff2 u k = ![k.val, 0] := by decide +kernel
/-- That row lies within the buffer. -/
theorem toff2_inb : ∀ u k a, toff2 u k a + S1x128.size a ≤ S64x128.size a := by decide +kernel
set_option maxRecDepth 65536 in
set_option maxHeartbeats 4000000 in
/-- The loop's body is the one proved of. -/
theorem body2 (L : grid1.Coords) (v3 : IVec S16 32) (p : Fin k1_t1_loop.trips) (a b c e : BitVec 32) (u w : BitVec 1) :
    k1_t2_body (F := F) L (Memref.whole main_v1_scv) (Memref.isWhole_whole _) (Memref.whole main_v2_scv) (Memref.isWhole_whole _)
      (Memref.whole main_v3_scv) (Memref.isWhole_whole _) (Memref.whole cc1_scratch0) (Memref.isWhole_whole _) (Memref.whole cc1_scratch1) (Memref.isWhole_whole _)
      (Memref.whole cc1_scratch2) (Memref.isWhole_whole _) cc1_scratch3 cc1_scratch4 cc1_scratch5 cc1_scratch6
      cc1_scoped0 cc1_scoped1 cc1_scoped2 cc1_scoped3 cc1_scoped4
      v3 p a b c e u w = rowProg (F := F) (cc := cV1 L) (ss := jV1 L) rows0 v3 toff2 toff2_inb := rfl

/-- The row the loop writes at each of its eight stores of a trip. -/
abbrev toff3 : Fin 8 → Fin k1_t2_loop.trips → Fin 2 → Nat := ![k1_off14, k1_off15, k1_off16, k1_off17, k1_off18, k1_off19, k1_off20, k1_off21]
/-- So does the second. -/
theorem toff3_eq : ∀ u k, toff3 u k = ![k.val, 0] := by decide +kernel
/-- That row lies within the buffer. -/
theorem toff3_inb : ∀ u k a, toff3 u k a + S1x128.size a ≤ S64x128.size a := by decide +kernel
set_option maxRecDepth 65536 in
set_option maxHeartbeats 4000000 in
/-- The loop's body is the one proved of. -/
theorem body3 (L : grid1.Coords) (v3 : IVec S16 32) (a b c e g : BitVec 32) :
    k1_t3_body (F := F) L (Memref.whole main_v1_scv) (Memref.isWhole_whole _) (Memref.whole main_v2_scv) (Memref.isWhole_whole _)
      (Memref.whole main_v3_scv) (Memref.isWhole_whole _) (Memref.whole cc1_scratch0) (Memref.isWhole_whole _) (Memref.whole cc1_scratch1) (Memref.isWhole_whole _)
      (Memref.whole cc1_scratch2) (Memref.isWhole_whole _) cc1_scratch3 cc1_scratch4 cc1_scratch5 cc1_scratch6
      cc1_scoped0 cc1_scoped1 cc1_scoped2 cc1_scoped3 cc1_scoped4
      a v3 b c e g 0#32 = rowProg (F := F) (cc := cV1 L) (ss := jV1 L) rows1 v3 toff3 toff3_inb := rfl

/-- The row the loop writes at each of its eight stores of a trip. -/
abbrev toff4 : Fin 8 → Fin k1_t2_loop.trips → Fin 2 → Nat := ![k1_off24, k1_off25, k1_off26, k1_off27, k1_off28, k1_off29, k1_off30, k1_off31]
/-- So does the third. -/
theorem toff4_eq : ∀ u k, toff4 u k = ![k.val, 0] := by decide +kernel
/-- That row lies within the buffer. -/
theorem toff4_inb : ∀ u k a, toff4 u k a + S1x128.size a ≤ S64x128.size a := by decide +kernel
set_option maxRecDepth 65536 in
set_option maxHeartbeats 4000000 in
/-- The loop's body is the one proved of. -/
theorem body4 (L : grid1.Coords) (v3 : IVec S16 32) (a b c : BitVec 32) (u : BitVec 1) :
    k1_t4_body (F := F) L (Memref.whole main_v1_scv) (Memref.isWhole_whole _) (Memref.whole main_v2_scv) (Memref.isWhole_whole _)
      (Memref.whole main_v3_scv) (Memref.isWhole_whole _) (Memref.whole cc1_scratch0) (Memref.isWhole_whole _) (Memref.whole cc1_scratch1) (Memref.isWhole_whole _)
      (Memref.whole cc1_scratch2) (Memref.isWhole_whole _) cc1_scratch3 cc1_scratch4 cc1_scratch5 cc1_scratch6
      cc1_scoped0 cc1_scoped1 cc1_scoped2 cc1_scoped3 cc1_scoped4
      v3 a b c u = rowProg (F := F) (cc := cV1 L) (ss := jV1 L) rows0 v3 toff4 toff4_inb := rfl

/-- The row the loop writes at each of its eight stores of a trip. -/
abbrev toff5 : Fin 8 → Fin k1_t2_loop.trips → Fin 2 → Nat := ![k1_off34, k1_off35, k1_off36, k1_off37, k1_off38, k1_off39, k1_off40, k1_off41]
/-- So does the fourth. -/
theorem toff5_eq : ∀ u k, toff5 u k = ![k.val, 0] := by decide +kernel
/-- That row lies within the buffer. -/
theorem toff5_inb : ∀ u k a, toff5 u k a + S1x128.size a ≤ S64x128.size a := by decide +kernel
set_option maxRecDepth 65536 in
set_option maxHeartbeats 4000000 in
/-- The loop's body is the one proved of. -/
theorem body5 (L : grid1.Coords) (v3 : IVec S16 32) :
    k1_t5_body (F := F) L (Memref.whole main_v1_scv) (Memref.isWhole_whole _) (Memref.whole main_v2_scv) (Memref.isWhole_whole _)
      (Memref.whole main_v3_scv) (Memref.isWhole_whole _) (Memref.whole cc1_scratch0) (Memref.isWhole_whole _) (Memref.whole cc1_scratch1) (Memref.isWhole_whole _)
      (Memref.whole cc1_scratch2) (Memref.isWhole_whole _) cc1_scratch3 cc1_scratch4 cc1_scratch5 cc1_scratch6
      cc1_scoped0 cc1_scoped1 cc1_scoped2 cc1_scoped3 cc1_scoped4
      v3 = rowProg (F := F) (cc := cV1 L) (ss := jV1 L) rows1 v3 toff5 toff5_inb := rfl

/-- What is held at the start of trip `p`: the gather of block `2 p` and the fetch of block `2 p + 1` in flight, the output right
    below block `2 p`. -/
def Mid (d : Dev nD) (L : grid1.Coords) (O : CellTallies nD τ sig (HIx 2)) (W : Waits sig (HIx 2)) (q q' : PosShare TreeShare)
    (l : S819200.Idx → Elt F .i32) (tb : S1000000x128.Idx → Elt F .f32) (p : Nat) : sProp 𝕄 :=
  iprop(GatherFlight d L cc1_scratch5.sem rows0 idx0 q l tb (blk L (2 * p)) ∗ FetchFlight d L cc1_scratch4.sem idx1 q' l (blk L (2 * p + 1))
    ∗ (∃ Y, owns (tile1 d L) rows1 fullShare Y) ∗ (∃ Y, owns (tile1 d L) (Memref.whole cc1_scratch2) fullShare Y)
    ∗ (∃ f, ⌜OutUpTo L l tb (blk L (2 * p)) f⌝ ∗ (outLoc d ↦[outSet L]{fullShare} f))
    ∗ semVal (tile1 d L, .dma cc1_scratch3.sem) 0 ∗ semVal (tile1 d L, .dma cc1_scratch6.sem) 0
    ∗ semVal (tile1 d L, .dma cc1_scoped1.sem) 0 ∗ semVal (tile1 d L, .dma cc1_scoped2.sem) 0
    ∗ owing (tile1 d L) (default : HIx 2) O W)

/-- A tile's blocks are among the list's 6400. -/
theorem blk_lt (L : grid1.Coords) (t : Nat) (ht : t < 200) : blk L t < 6400 := by
  have h0 : (L 0).val < 2 := (L 0).isLt
  have h1 : (L 1).val < 16 := (L 1).isLt
  unfold blk; omega
/-- A tile's blocks are its own run of 200. -/
theorem blk_tile (L : grid1.Coords) (t : Nat) (ht : t < 200) : blk L t / 200 = 2 * (L 1).val + (L 0).val := by
  unfold blk; omega
/-- The next trip takes the next block. -/
theorem blk_succ (L : grid1.Coords) (t : Nat) : blk L (t + 1) = blk L t + 1 := rfl

set_option maxRecDepth 65536 in
set_option maxHeartbeats 4000000 in
/-- One trip of the main loop: blocks `2 p` and `2 p + 1` done, the next two under way. -/
theorem trip (d : Dev nD) (L : grid1.Coords) {O : CellTallies nD τ sig (HIx 2)} {W : Waits sig (HIx 2)} {q q' : PosShare TreeShare}
    {l : S819200.Idx → Elt F .i32} (hl : ∀ y, (l y : BitVec 32).toNat < 1000000) (tb : S1000000x128.Idx → Elt F .f32)
    (v2 : BitVec 32) (v3 : IVec S16 32) (hv3 : ∀ x, (v3 x).toNat = (x 0).val) (v57 v59 v60 c0 : BitVec 32) (p : Fin k1_t1_loop.trips) (acc : BitVec 32) :
    iprop(Transfers.MayWaits (tile1 d L) (default : HIx 2) O ∗ Mid d L O W q q' l tb p.val)
      ⊢ wp frame (wpE (defs₀ (F := F)) 𝒱₀ (tile1 d L) none) Set.univ
          (k1_t1_body (F := F) L (Memref.whole main_v1_scv) (Memref.isWhole_whole _) (Memref.whole main_v2_scv) (Memref.isWhole_whole _)
      (Memref.whole main_v3_scv) (Memref.isWhole_whole _) (Memref.whole cc1_scratch0) (Memref.isWhole_whole _) (Memref.whole cc1_scratch1) (Memref.isWhole_whole _)
      (Memref.whole cc1_scratch2) (Memref.isWhole_whole _) cc1_scratch3 cc1_scratch4 cc1_scratch5 cc1_scratch6
      cc1_scoped0 cc1_scoped1 cc1_scoped2 cc1_scoped3 cc1_scoped4
            v2 v3 v57 v59 v60 c0 p acc)
          fun _ => Mid d L O W q q' l tb (p.val + 1) := by
  have hp : p.val < 99 := lt_of_lt_of_eq p.isLt (by decide)
  unfold k1_t1_body
  simp only [k1_part5_eq_skeleton, k1_part6_eq_skeleton, k1_part7_eq_skeleton, k1_part8_eq_skeleton, k1_part9_eq_skeleton, k1_part10_eq_skeleton,
    k1_part11_eq_skeleton]
  unfold k1_part5_skel k1_part6_skel k1_part7_skel k1_part8_skel k1_part9_skel k1_part10_skel k1_part11_skel
  simp only [Prog.bind_assoc, Prog.bind_lift, Prog.bind_ret, Prog.bind_op, Prog.pure_eq_ret, SparseCore.waitIndirectGather_bind]
  iintro ⟨#Hmw, HM⟩
  unfold Mid
  icases HM with ⟨HG, HF, ⟨%Y1, HR1⟩, ⟨%YT, HT⟩, ⟨%f, %hf, Hf⟩, Hi0, Hg1, H1, H2, HO⟩
  iapply (advance d L (blk L (2 * p.val)) (blk L (2 * p.val + 1)) hl) $$ [HG HF HR1 Hg1 HO]
  · isplitr; · iexact Hmw
    isplitl [HG]; · iexact HG
    isplitl [HF]; · iexact HF
    isplitl [HR1]; · iexact HR1
    isplitl [Hg1]; · iexact Hg1
    iexact HO
  iintro ⟨HR0, HI0, Hix, Hg0, Hi1, HG, HO⟩
  iapply (fetch_step d L (blk L (2 * p.val + 2)) (blk_lt L _ (by omega)) (off2_2 L p)) $$ [Hix HI0 Hi0]
  · isplitl [Hix]; · iexact Hix
    isplitl [HI0]; · iexact HI0
    iexact Hi0
  iintro HF
  iapply (emit d L (blk L (2 * p.val)) (blk_lt L _ (by omega)) (blk_tile L _ (by omega)) toff2_eq hv3 (body2 L v3 p _ _ _ _ _ _)
    (off11 L p) (off12 L p) hf) $$ [HR0 HT Hf H1 HO]
  · isplitr; · iexact Hmw
    isplitl [HR0]; · iexact HR0
    isplitl [HT]; · iexact HT
    isplitl [Hf]; · iexact Hf
    isplitl [H1]; · iexact H1
    iexact HO
  iintro %f1 %hf1 ⟨HR0, ⟨%YT1, HT⟩, Hf, H1, HO⟩
  iapply (advance d L (blk L (2 * p.val + 1)) (blk L (2 * p.val + 2)) hl) $$ [HG HF HR0 Hg0 HO]
  · isplitr; · iexact Hmw
    isplitl [HG]; · iexact HG
    isplitl [HF]; · iexact HF
    isplitl [HR0]; · iexact HR0
    isplitl [Hg0]; · iexact Hg0
    iexact HO
  iintro ⟨HR1, HI1, Hix, Hg1, Hi0, HG, HO⟩
  iapply (fetch_step d L (blk L (2 * p.val + 3)) (blk_lt L _ (by omega)) (off13_2 L p)) $$ [Hix HI1 Hi1]
  · isplitl [Hix]; · iexact Hix
    isplitl [HI1]; · iexact HI1
    iexact Hi1
  iintro HF
  iapply (emit d L (blk L (2 * p.val + 1)) (blk_lt L _ (by omega)) (blk_tile L _ (by omega)) toff3_eq hv3 (body3 L v3 v2 v57 v59 v60 c0)
    (off22 L p) (off23 L p) hf1) $$ [HR1 HT Hf H2 HO]
  · isplitr; · iexact Hmw
    isplitl [HR1]; · iexact HR1
    isplitl [HT]; · iexact HT
    isplitl [Hf]; · iexact Hf
    isplitl [H2]; · iexact H2
    iexact HO
  iintro %f2 %hf2 ⟨HR1, HT, Hf, H2, HO⟩
  rw [wp_ret]
  imodintro
  isplitl [HG]; · iexact HG
  isplitl [HF]; · iexact HF
  isplitl [HR1]; · iexists _; iexact HR1
  isplitl [HT]; · iexact HT
  isplitl [Hf]
  · iexists f2
    isplitr; · ipureintro; exact hf2
    iexact Hf
  isplitl [Hi0]; · iexact Hi0
  isplitl [Hg1]; · iexact Hg1
  isplitl [H1]; · iexact H1
  isplitl [H2]; · iexact H2
  iexact HO

/-! ## The tile's buffers in halves -/

section Parts

omit [FloatOps F]

/-- A region of a buffer at some contents is a part of it at some contents and the rest at some contents. -/
theorem part_split (ℓ : Loc nD τ sig) {A I : Finset (Idx ℓ)} (h : A ⊆ I) :
    (iprop(∃ f, ℓ ↦[I]{fullShare} f) : sProp 𝕄) ⊢ iprop((∃ f, ℓ ↦[A]{fullShare} f) ∗ (∃ f, ℓ ↦[I \ A]{fullShare} f)) := by
  iintro ⟨%f, H⟩
  ihave H' := (pointsTo_split_subset (q := fullShare) (f := f) h).1 $$ H
  icases H' with ⟨HA, HB⟩
  isplitl [HA]; · iexists f; iexact HA
  iexists f; iexact HB

/-- A part and the rest of a set, each held at some contents, are the set held at some contents. -/
theorem part_join (ℓ : Loc nD τ sig) {A I : Finset (Idx ℓ)} (h : A ⊆ I) :
    iprop((∃ f, ℓ ↦[A]{fullShare} f) ∗ (∃ f, ℓ ↦[I \ A]{fullShare} f)) ⊢ (iprop(∃ f, ℓ ↦[I]{fullShare} f) : sProp 𝕄) := by
  classical
  iintro ⟨⟨%f, HA⟩, ⟨%g, HB⟩⟩
  iexists (fun x => if x ∈ A then f x else g x)
  iapply (pointsTo_split_subset (q := fullShare) h).2
  isplitl [HA]
  · iapply (Entails.of_eq (pointsTo_congr (I := A) (q := fullShare) (ℓ := ℓ) (fun x hx => (if_pos hx).symm)))
    iexact HA
  · iapply (Entails.of_eq (pointsTo_congr (I := I \ A) (q := fullShare) (ℓ := ℓ) (fun x hx => (if_neg (Finset.mem_sdiff.mp hx).2).symm)))
    iexact HB

/-- The two halves of the row buffer, of the list buffer, do not meet. -/
theorem rows_apart : rows1.view.set ⊆ Finset.univ \ rows0.view.set := by
  intro x hx
  refine Finset.mem_sdiff.mpr ⟨Finset.mem_univ _, fun hx0 => ?_⟩
  have h1 : 1 ≤ (x 0).val := by
    obtain ⟨y, -, rfl⟩ := Finset.mem_map.mp hx
    show 1 ≤ 1 + 1 * (Shape.reshapeEquiv _ y 0).val
    omega
  have h0 : (x 0).val < 1 := by
    obtain ⟨y, -, rfl⟩ := Finset.mem_map.mp hx0
    show 0 + 1 * (Shape.reshapeEquiv (s := S1x128x128) _ y 0).val < 1
    have : (Shape.reshapeEquiv (s := S1x128x128) (s' := S128x128) squeezes_S1x128x128_S128x128.numel_eq y 0).val < 1 := Fin.isLt _
    omega
  omega

/-- The two index buffers do not meet. -/
theorem idx_apart : idx1.view.set ⊆ Finset.univ \ idx0.view.set := by
  intro x hx
  refine Finset.mem_sdiff.mpr ⟨Finset.mem_univ _, fun hx0 => ?_⟩
  have h1 : 1 ≤ (x 0).val := by
    obtain ⟨y, -, rfl⟩ := Finset.mem_map.mp hx
    show 1 ≤ 1 + 1 * (Shape.reshapeEquiv _ y 0).val
    omega
  have h0 : (x 0).val < 1 := by
    obtain ⟨y, -, rfl⟩ := Finset.mem_map.mp hx0
    show 0 + 1 * (Shape.reshapeEquiv (s := S1x128) _ y 0).val < 1
    have : (Shape.reshapeEquiv (s := S1x128) (s' := S128) squeezes_S1x128_S128.numel_eq y 0).val < 1 := Fin.isLt _
    omega
  omega

/-- A memref's elements at some contents, read and unread. -/
theorem owns_of_any (c : Thread nD τ) {sp : Space} {sh : Shape} {e : EltTy} (m : Memref sig c.2.kind sp sh e) :
    (iprop(∃ f, m.view.loc c ↦[m.view.set]{fullShare} f) : sProp 𝕄) ⊢ iprop(∃ Y, owns c m fullShare Y) := by
  iintro ⟨%f, H⟩
  iexists _
  iapply (owns_intro c m _ f)
  iexact H
/-- A memref owned at some contents read has its elements held at some contents. -/
theorem any_of_owns (c : Thread nD τ) {sp : Space} {sh : Shape} {e : EltTy} (m : Memref sig c.2.kind sp sh e) :
    iprop(∃ Y, owns c m fullShare Y) ⊢ (iprop(∃ f, m.view.loc c ↦[m.view.set]{fullShare} f) : sProp 𝕄) := by
  iintro ⟨%Y, H⟩
  ihave H' := (show owns c m fullShare Y ⊢ (iprop(∃ f, ⌜m.view.read (Elt F) f = Y⌝ ∗ (m.view.loc c ↦[m.view.set]{fullShare} f)) : sProp 𝕄) from .rfl) $$ H
  icases H' with ⟨%f, -, H⟩
  iexists f
  iexact H

/-- The row buffer as its two halves (and nothing of it is lost); the list buffer as its. -/
abbrev restRows : Finset S2x128x128.Idx := (Finset.univ \ rows0.view.set) \ rows1.view.set
/-- What the two index buffers leave of theirs. -/
abbrev restIdx : Finset S2x128.Idx := (Finset.univ \ idx0.view.set) \ idx1.view.set

/-- The row scratch is its two buffers and what these leave. -/
theorem rows_split (d : Dev nD) (L : grid1.Coords) :
    (iprop(∃ f, (tile1 d L).loc cc1_scratch1 ↦{fullShare} f) : sProp 𝕄)
      ⊢ iprop((∃ Y, owns (tile1 d L) rows0 fullShare Y) ∗ (∃ Y, owns (tile1 d L) rows1 fullShare Y) ∗ (∃ f, (tile1 d L).loc cc1_scratch1 ↦[restRows]{fullShare} f)) := by
  iintro H
  ihave H1 := (part_split (F := F) ((tile1 d L).loc cc1_scratch1) (Finset.subset_univ rows0.view.set)) $$ H
  icases H1 with ⟨HA, H⟩
  ihave H2 := (part_split (F := F) ((tile1 d L).loc cc1_scratch1) rows_apart) $$ H
  icases H2 with ⟨HB, H⟩
  isplitl [HA]; · iapply (owns_of_any (tile1 d L) rows0); iexact HA
  isplitl [HB]; · iapply (owns_of_any (tile1 d L) rows1); iexact HB
  iexact H
/-- The two row buffers and what they leave are the row scratch. -/
theorem rows_join (d : Dev nD) (L : grid1.Coords) :
    iprop((∃ Y, owns (tile1 d L) rows0 fullShare Y) ∗ (∃ Y, owns (tile1 d L) rows1 fullShare Y) ∗ (∃ f, (tile1 d L).loc cc1_scratch1 ↦[restRows]{fullShare} f))
      ⊢ (iprop(∃ f, (tile1 d L).loc cc1_scratch1 ↦{fullShare} f) : sProp 𝕄) := by
  iintro ⟨HA, HB, H⟩
  ihave HA := (any_of_owns (tile1 d L) rows0) $$ HA
  ihave HB := (any_of_owns (tile1 d L) rows1) $$ HB
  ihave H := (part_join (F := F) ((tile1 d L).loc cc1_scratch1) rows_apart) $$ [HB H]
  · isplitl [HB]; · iexact HB
    iexact H
  iapply (part_join (F := F) ((tile1 d L).loc cc1_scratch1) (Finset.subset_univ rows0.view.set))
  isplitl [HA]; · iexact HA
  iexact H

/-- The index scratch is its two buffers and what these leave. -/
theorem idx_split (d : Dev nD) (L : grid1.Coords) :
    (iprop(∃ f, (tile1 d L).loc cc1_scratch0 ↦{fullShare} f) : sProp 𝕄)
      ⊢ iprop((∃ Y, owns (tile1 d L) idx0 fullShare Y) ∗ (∃ Y, owns (tile1 d L) idx1 fullShare Y) ∗ (∃ f, (tile1 d L).loc cc1_scratch0 ↦[restIdx]{fullShare} f)) := by
  iintro H
  ihave H1 := (part_split (F := F) ((tile1 d L).loc cc1_scratch0) (Finset.subset_univ idx0.view.set)) $$ H
  icases H1 with ⟨HA, H⟩
  ihave H2 := (part_split (F := F) ((tile1 d L).loc cc1_scratch0) idx_apart) $$ H
  icases H2 with ⟨HB, H⟩
  isplitl [HA]; · iapply (owns_of_any (tile1 d L) idx0); iexact HA
  isplitl [HB]; · iapply (owns_of_any (tile1 d L) idx1); iexact HB
  iexact H
/-- The two index buffers and what they leave are the index scratch. -/
theorem idx_join (d : Dev nD) (L : grid1.Coords) :
    iprop((∃ Y, owns (tile1 d L) idx0 fullShare Y) ∗ (∃ Y, owns (tile1 d L) idx1 fullShare Y) ∗ (∃ f, (tile1 d L).loc cc1_scratch0 ↦[restIdx]{fullShare} f))
      ⊢ (iprop(∃ f, (tile1 d L).loc cc1_scratch0 ↦{fullShare} f) : sProp 𝕄) := by
  iintro ⟨HA, HB, H⟩
  ihave HA := (any_of_owns (tile1 d L) idx0) $$ HA
  ihave HB := (any_of_owns (tile1 d L) idx1) $$ HB
  ihave H := (part_join (F := F) ((tile1 d L).loc cc1_scratch0) idx_apart) $$ [HB H]
  · isplitl [HB]; · iexact HB
    iexact H
  iapply (part_join (F := F) ((tile1 d L).loc cc1_scratch0) (Finset.subset_univ idx0.view.set))
  isplitl [HA]; · iexact HA
  iexact H

/-- The semaphores of the call, and its tile buffers. -/
abbrev sems1 : Finset (SemLoc sig) := {.dma cc1_scratch3.sem, .dma cc1_scratch4.sem, .dma cc1_scratch5.sem, .dma cc1_scratch6.sem, .dma cc1_scoped0.sem, .dma cc1_scoped1.sem, .dma cc1_scoped2.sem, .dma cc1_scoped3.sem, .dma cc1_scoped4.sem}
/-- The call's three scratch buffers. -/
abbrev bufs1 : Finset (Ref sig .scVector) := {cc1_scratch0, cc1_scratch1, cc1_scratch2}

/-- The tile's semaphores at zero: the call's nine, and the rest. -/
theorem ownSems_tile1 (d : Dev nD) (L : grid1.Coords) :
    (ownSems0 (tile1 d L) : sProp 𝕄) = iprop((semVal (tile1 d L, .dma cc1_scratch3.sem) 0
        ∗ semVal (tile1 d L, .dma cc1_scratch4.sem) 0
        ∗ semVal (tile1 d L, .dma cc1_scratch5.sem) 0
        ∗ semVal (tile1 d L, .dma cc1_scratch6.sem) 0
        ∗ semVal (tile1 d L, .dma cc1_scoped0.sem) 0
        ∗ semVal (tile1 d L, .dma cc1_scoped1.sem) 0
        ∗ semVal (tile1 d L, .dma cc1_scoped2.sem) 0
        ∗ semVal (tile1 d L, .dma cc1_scoped3.sem) 0
        ∗ semVal (tile1 d L, .dma cc1_scoped4.sem) 0)
      ∗ bigSep (ownCells (tile1 d L) \ sems1.map ⟨fun s => ((tile1 d L, s) : GSem nD τ sig), fun _ _ h => (Prod.mk.inj h).2⟩) fun g => semVal g 0) := by
  rw [own_sems (tile1 d L) sems1 (by intro s hs; fin_cases hs <;> rfl)]
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

/-- The tile's buffers: the call's three, and the rest. -/
theorem ownBufs_tile1 (d : Dev nD) (L : grid1.Coords) :
    (ownBufs (tile1 d L) : sProp 𝕄) = iprop(((∃ f, (tile1 d L).loc cc1_scratch0 ↦{fullShare} f) ∗ (∃ f, (tile1 d L).loc cc1_scratch1 ↦{fullShare} f)
        ∗ (∃ f, (tile1 d L).loc cc1_scratch2 ↦{fullShare} f))
      ∗ bigSep (ownRefs (tile1 d L).2 \ bufs1.map ⟨(tile1 d L).2.devRef, Proc.devRef_injective _⟩) fun b => iprop(∃ f, ((d, b) : Loc nD τ sig) ↦{fullShare} f)) := by
  rw [own_bufs (tile1 d L) bufs1 (by intro s hs; fin_cases hs <;> rfl)]
  rw [SparseCore.bigSep_insert' (show cc1_scratch0 ∉ ({cc1_scratch1, cc1_scratch2} : Finset (Ref sig .scVector)) by decide),
    SparseCore.bigSep_insert' (show cc1_scratch1 ∉ ({cc1_scratch2} : Finset (Ref sig .scVector)) by decide), bigSep_singleton]

end Parts

/-- Before the first block nothing of the output need be right; after the last, all of the tile's part is. -/
theorem out_start (L : grid1.Coords) (l : S819200.Idx → Elt F .i32) (tb : S1000000x128.Idx → Elt F .f32) (f : S50x64x16384.Idx → Elt F .f32) :
    OutUpTo L l tb (blk L 0) f := by
  intro x hx hlt
  have := (Finset.mem_filter.mp hx).2
  unfold blk at hlt
  omega
/-- After the last block the tile's part of the output is at its result. -/
theorem out_end (L : grid1.Coords) (l : S819200.Idx → Elt F .i32) (tb : S1000000x128.Idx → Elt F .f32) (f : S50x64x16384.Idx → Elt F .f32)
    (hf : OutUpTo L l tb (blk L 199 + 1) f) : ∀ x ∈ outSet L, f x = outOf l tb x := by
  intro x hx
  have := (Finset.mem_filter.mp hx).2
  apply hf x hx
  unfold blk
  omega

/-- One trip, the leave to wait kept. -/
theorem main_trip (d : Dev nD) (L : grid1.Coords) {O : CellTallies nD τ sig (HIx 2)} {W : Waits sig (HIx 2)} {q q' : PosShare TreeShare}
    {l : S819200.Idx → Elt F .i32} (hl : ∀ y, (l y : BitVec 32).toNat < 1000000) (tb : S1000000x128.Idx → Elt F .f32)
    (v2 : BitVec 32) (v3 : IVec S16 32) (hv3 : ∀ x, (v3 x).toNat = (x 0).val) (v57 v59 v60 c0 : BitVec 32) (p : Fin k1_t1_loop.trips) (acc : BitVec 32) :
    iprop(Transfers.MayWaits (tile1 d L) (default : HIx 2) O ∗ Mid d L O W q q' l tb p.val)
      ⊢ wp frame (wpE (defs₀ (F := F)) 𝒱₀ (tile1 d L) none) Set.univ
          (k1_t1_body (F := F) L (Memref.whole main_v1_scv) (Memref.isWhole_whole _) (Memref.whole main_v2_scv) (Memref.isWhole_whole _)
            (Memref.whole main_v3_scv) (Memref.isWhole_whole _) (Memref.whole cc1_scratch0) (Memref.isWhole_whole _) (Memref.whole cc1_scratch1) (Memref.isWhole_whole _)
            (Memref.whole cc1_scratch2) (Memref.isWhole_whole _) cc1_scratch3 cc1_scratch4 cc1_scratch5 cc1_scratch6
            cc1_scoped0 cc1_scoped1 cc1_scoped2 cc1_scoped3 cc1_scoped4
            v2 v3 v57 v59 v60 c0 p acc)
          fun _ => iprop(Transfers.MayWaits (tile1 d L) (default : HIx 2) O ∗ Mid d L O W q q' l tb (p.val + 1)) := by
  iintro ⟨#Hmw, HM⟩
  iapply (wp_frame_l frame (wpE (defs₀ (F := F)) 𝒱₀ (tile1 d L) none) Set.univ)
  isplitr; · iexact Hmw
  iapply (trip d L hl tb v2 v3 hv3 v57 v59 v60 c0 p acc)
  isplitr; · iexact Hmw
  iexact HM

set_option maxRecDepth 65536 in
set_option maxHeartbeats 8000000 in
/-- THE SECOND CALL'S BODY ON A TILE: from shares of the list and of the table, every word of the list naming a row, and the
    tile's part of the output at any contents, that part holds the table rows its words name, transposed. -/
theorem gather_body (hF : (K (F := F)).Facts) (d : Dev nD) (L : grid1.Coords) {q q' : PosShare TreeShare}
    (l : S819200.Idx → Elt F .i32) (hl : ∀ y, (l y : BitVec 32).toNat < 1000000) (tb : S1000000x128.Idx → Elt F .f32)
    (f : S50x64x16384.Idx → Elt F .f32) (O : CellTallies nD τ sig (HIx 2)) (W : Waits sig (HIx 2)) (hO : ∀ g, O g none = 0) :
    iprop(levAts (K (F := F)).L (K (F := F)).lev ∗ emp
        ∗ ((ixLoc d ↦{q} l) ∗ (tbLoc d ↦{q'} tb) ∗ (outLoc d ↦[outSet L]{fullShare} f))
        ∗ scopedBufs (tile1 d L) ∗ scopedSems0 (tile1 d L) ∗ owes (tile1 d L) O W : sProp 𝕄)
      ⊢ wp frame (wpE (defs₀ (F := F)) 𝒱₀ (tile1 d L) none) Set.univ
          (cc1__gather_kernel L (Memref.whole main_v1_scv) (Memref.isWhole_whole _) (Memref.whole main_v2_scv) (Memref.isWhole_whole _)
            (Memref.whole main_v3_scv) (Memref.isWhole_whole _) (Memref.whole cc1_scratch0) (Memref.isWhole_whole _) (Memref.whole cc1_scratch1) (Memref.isWhole_whole _)
            (Memref.whole cc1_scratch2) (Memref.isWhole_whole _) cc1_scratch3 cc1_scratch4 cc1_scratch5 cc1_scratch6
            cc1_scoped0 cc1_scoped1 cc1_scoped2 cc1_scoped3 cc1_scoped4)
          fun _ => iprop(((ixLoc d ↦{q} l) ∗ (tbLoc d ↦{q'} tb) ∗ (outLoc d ↦[outSet L]{fullShare} outOf l tb))
            ∗ scopedBufs (tile1 d L) ∗ scopedSems0 (tile1 d L)
            ∗ ∃ W', ⌜∀ p ∈ W', p ∈ W ∨ p.2 = none⌝ ∗ owes (tile1 d L) O W') := by
  have hv3 : ∀ x, ((iota .scVector S16 32 [0] iota_S16_d0_w32_scVector : IVec S16 32) x).toNat = (x 0).val := by decide +kernel
  simp only [cc1__gather_kernel_eq_skeleton]; unfold cc1__gather_kernel_skel
  rw [(K (F := F)).scopedBufs_V hF d (cV1 L) (jV1 L), SparseCore.Cfg.scopedSems0_V (Val := Elt F) d (cV1 L) (jV1 L)]
  rw [ownSems_tile1 d L, ownBufs_tile1 d L]
  simp only [k1_part16_eq_skeleton, k1_part17_eq_skeleton, k1_part18_eq_skeleton, k1_part19_eq_skeleton, k1_part20_eq_skeleton, k1_part21_eq_skeleton]
  unfold k1_part16_skel k1_part17_skel k1_part18_skel k1_part19_skel k1_part20_skel k1_part21_skel
  simp only [Prog.bind_assoc, Prog.bind_lift, Prog.bind_ret, Prog.bind_op, Prog.pure_eq_ret]
  iintro ⟨#Hlv, -, ⟨Hix, Htb, Hf⟩, ⟨⟨Hb0, Hb1, ⟨%fT, HT⟩⟩, Hbufs⟩, ⟨⟨Hi0, Hi1, Hg0, Hg1, H0, H1, H2, H3, H4⟩, Hsems⟩, HO⟩
  ihave #Hmw := (mayWaits (F := F) (tile1 d L) O hO) $$ Hlv
  ihave Hb0 := (idx_split (F := F) d L) $$ Hb0
  icases Hb0 with ⟨⟨%J0, HI0⟩, ⟨%J1, HI1⟩, HIr⟩
  ihave Hb1 := (rows_split (F := F) d L) $$ Hb1
  icases Hb1 with ⟨⟨%Y0, HR0⟩, ⟨%Y1, HR1⟩, HRr⟩
  ihave HT := (Entails.of_eq (owns_whole (tile1 d L) cc1_scratch2 fullShare fT).symm) $$ HT
  ihave HO := (owing_intro (F := F) (tile1 d L) O W) $$ HO
  iapply (fetch_step d L (blk L 0) (blk_lt L _ (by omega)) (off1_0 L)) $$ [Hix HI0 H0]
  · isplitl [Hix]; · iexact Hix
    isplitl [HI0]; · iexact HI0
    iexact H0
  iintro HF
  iapply (wait_step countersEmb 𝒱₀ (tile1 d L) none (default : HIx 2) (N := NI) rfl) $$ [HF HO]
  · isplitr; · iexact Hmw
    isplitl [HF]; · iexact HF
    iexact HO
  iintro ⟨⟨HI0, Hix⟩, H0, HO⟩
  iapply (gather_step d L (blk L 0) hl) $$ [Htb HR0 HI0 Hg0]
  · isplitl [Htb]; · iexact Htb
    isplitl [HR0]; · iexact HR0
    isplitl [HI0]; · iexact HI0
    iexact Hg0
  iintro HG
  iapply (fetch_step d L (blk L 1) (blk_lt L _ (by omega)) (off1_1 L)) $$ [Hix HI1 Hi1]
  · isplitl [Hix]; · iexact Hix
    isplitl [HI1]; · iexact HI1
    iexact Hi1
  iintro HF
  iapply (Scf.wp_for_bind frame (wpE (defs₀ (F := F)) 𝒱₀ (tile1 d L) none) Set.univ k1_t1_loop.lb k1_t1_loop.ub k1_t1_loop.st k1_t1_ok 0#32
    _ (fun p _ => iprop(Transfers.MayWaits (tile1 d L) (default : HIx 2) O ∗ Mid d L O W q' q l tb p))
    (fun p acc => main_trip d L hl tb _ _ hv3 _ _ _ _ p acc)) $$ [HG HF HR1 HT Hf Hi0 Hg1 H1 H2 HO]
  · isplitr; · iexact Hmw
    unfold Mid
    isplitl [HG]; · iexact HG
    isplitl [HF]; · iexact HF
    isplitl [HR1]; · iexists _; iexact HR1
    isplitl [HT]; · iexists _; iexact HT
    isplitl [Hf]
    · iexists f
      isplitr; swap; · iexact Hf
      ipureintro
      exact out_start L l tb f
    isplitl [Hi0]; · iexact Hi0
    isplitl [Hg1]; · iexact Hg1
    isplitl [H1]; · iexact H1
    isplitl [H2]; · iexact H2
    iexact HO
  iintro %acc ⟨-, HM⟩
  rw [show Scf.trips k1_t1_loop.lb k1_t1_loop.ub k1_t1_loop.st = 99 from by decide]
  unfold Mid
  icases HM with ⟨HG, HF, ⟨%Y2, HR1⟩, ⟨%YT, HT⟩, ⟨%f1, %hf1, Hf⟩, Hi0, Hg1, H1, H2, HO⟩
  iapply (advance d L (blk L 198) (blk L 199) hl) $$ [HG HF HR1 Hg1 HO]
  · isplitr; · iexact Hmw
    isplitl [HG]; · iexact HG
    isplitl [HF]; · iexact HF
    isplitl [HR1]; · iexact HR1
    isplitl [Hg1]; · iexact Hg1
    iexact HO
  iintro ⟨HR0, HI0, Hix, Hg0, Hi1, HG, HO⟩
  iapply (emit d L (blk L 198) (blk_lt L _ (by omega)) (blk_tile L _ (by omega)) toff4_eq hv3 (body4 L _ _ _ _ _)
    (off32_198 L) (off33_198 L) hf1) $$ [HR0 HT Hf H3 HO]
  · isplitr; · iexact Hmw
    isplitl [HR0]; · iexact HR0
    isplitl [HT]; · iexact HT
    isplitl [Hf]; · iexact Hf
    isplitl [H3]; · iexact H3
    iexact HO
  iintro %f2 %hf2 ⟨HR0, ⟨%YT1, HT⟩, Hf, H3, HO⟩
  iapply (wait_step countersEmb 𝒱₀ (tile1 d L) none (default : HIx 2) (N := NR) rfl) $$ [HG HO]
  · isplitr; · iexact Hmw
    isplitl [HG]; · iexact HG
    iexact HO
  iintro ⟨⟨HR1, Htb, HI1⟩, Hg1, HO⟩
  iapply (emit d L (blk L 199) (blk_lt L _ (by omega)) (blk_tile L _ (by omega)) toff5_eq hv3 (body5 L _)
    (off32_199 L) (off33_199 L) hf2) $$ [HR1 HT Hf H4 HO]
  · isplitr; · iexact Hmw
    isplitl [HR1]; · iexact HR1
    isplitl [HT]; · iexact HT
    isplitl [Hf]; · iexact Hf
    isplitl [H4]; · iexact H4
    iexact HO
  iintro %f3 %hf3 ⟨HR1, HT, Hf, H4, HO⟩
  have hE : ∀ x ∈ outSet L, f3 x = outOf l tb x := out_end L l tb f3 hf3
  rw [wp_ret]
  imodintro
  isplitl [Hix Htb Hf]
  · isplitl [Hix]; · iexact Hix
    isplitl [Htb]; · iexact Htb
    iapply (Entails.of_eq (pointsTo_congr (I := outSet L) (q := fullShare) (ℓ := outLoc d) hE))
    iexact Hf
  isplitl [HI0 HI1 HIr HR0 HR1 HRr HT Hbufs]
  · isplitl [HI0 HI1 HIr HR0 HR1 HRr HT]
    · isplitl [HI0 HI1 HIr]
      · iapply (idx_join (F := F) d L)
        isplitl [HI0]; · iexists _; iexact HI0
        isplitl [HI1]; · iexists _; iexact HI1
        iexact HIr
      isplitl [HR0 HR1 HRr]
      · iapply (rows_join (F := F) d L)
        isplitl [HR0]; · iexists _; iexact HR0
        isplitl [HR1]; · iexists _; iexact HR1
        iexact HRr
      iapply (owns_whole_any (F := F) (tile1 d L) cc1_scratch2)
      iexact HT
    iexact Hbufs
  isplitl [Hi0 Hi1 Hg0 Hg1 H0 H1 H2 H3 H4 Hsems]
  · isplitl [Hi0 Hi1 Hg0 Hg1 H0 H1 H2 H3 H4]
    · isplitl [Hi0]; · iexact Hi0
      isplitl [Hi1]; · iexact Hi1
      isplitl [Hg0]; · iexact Hg0
      isplitl [Hg1]; · iexact Hg1
      isplitl [H0]; · iexact H0
      isplitl [H1]; · iexact H1
      isplitl [H2]; · iexact H2
      isplitl [H3]; · iexact H3
      iexact H4
    iexact Hsems
  iapply (owing_elim (F := F) (tile1 d L) O W)
  iexact HO

end Cert.Proof.KernelIdeal

end
-- ==== Proof.DealKernelIdeal.lean ====
/-
  What the two launches hand over and take back: the shares of the arrays every tile reads, and the parts of the arrays
  the tiles write, dealt first to the two cores and then to the sixteen tiles of each.
-/
module

public import proofs.«01_k».proof.Proof.GatherKernelIdeal

@[expose] public section

noncomputable section

namespace Cert.Proof.KernelIdeal

open Cert.KernelIdeal Cert.KernelIdeal.Gen Cert.Proof.Steps
open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
local notation "𝕄" => MT nD τ sig (HIx 2) (Elt F) ℕ UU ℕ

/-! ## The values the host computes -/

variable (m : (a : Loc nD τ sig) → Buf (Elt F) a)

/-- The transposed index array, the first call's input. -/
def TR (d : Dev nD) : S50x16384.Idx → Elt F .i32 := transpose S50x16384 [1, 0] (m (aLoc d) : S16384x50.Idx → Elt F .i32) transposes_S16384x50_S50x16384_1_0

/-- The index list, the first call's result. -/
def LS (d : Dev nD) : S819200.Idx → Elt F .i32 := listOf (TR m d)

/-- The table padded to 128 columns, the second call's input. -/
def TB (d : Dev nD) : S1000000x128.Idx → Elt F .f32 :=
  pad S1000000x128 ![0, 0] ![0, 64] ![0, 0] (m (bLoc d) : S1000000x64.Idx → Elt F .f32)
    (sitofp .f32 (constantI S_ 32 0#32)) pads_S1000000x64_S1000000x128_000_0640 h_S_

/-- The second call's result. -/
def OUT (d : Dev nD) : S50x64x16384.Idx → Elt F .f32 := outOf (LS m d) (TB m d)

/-- The program's result, the second call's with its axes turned round. -/
def RES (d : Dev nD) : S16384x50x64.Idx → Elt F .f32 := transpose S16384x50x64 [2, 0, 1] (OUT m d) transposes_S50x64x16384_S16384x50x64_2_0_1

/-- What the input has to satisfy: every index names a row of the table. -/
def PreOK : Prop := ∀ (d : Dev nD) (j : S16384x50.Idx), ((m (aLoc d) : S16384x50.Idx → Elt F .i32) j : BitVec 32).toNat < 1000000

/-- The words of the list are then row numbers too. -/
theorem LS_lt (h : PreOK m) (d : Dev nD) (y : S819200.Idx) : (LS m d y : BitVec 32).toNat < 1000000 := h d _

/-! ## Coordinates -/

/-- The first call's coordinates of core `c`, tile `s`. -/
def coords0 (c : Fin (grid0.bound 0)) (s : Fin (grid0.bound 1)) : grid0.Coords := fun
  | 0 => c
  | 1 => s
  | ⟨_ + 2, h⟩ => absurd h (Nat.not_lt.2 (Nat.le_add_left _ _))

/-- The second call's coordinates of core `c`, tile `s`. -/
def coords1 (c : Fin (grid1.bound 0)) (s : Fin (grid1.bound 1)) : grid1.Coords := fun
  | 0 => c
  | 1 => s
  | ⟨_ + 2, h⟩ => absurd h (Nat.not_lt.2 (Nat.le_add_left _ _))

/-! ## Dealing a buffer -/

/-- The part of the list core `c` writes: the rows of its parity. -/
def coreList (c : Fin 2) : Finset S819200.Idx := Finset.univ.filter fun y => (y 0).val / 16384 % 2 = c.val

/-- The part of the output core `c` writes: every other run of 200 blocks. -/
def coreOut (c : Fin 2) : Finset S50x64x16384.Idx := Finset.univ.filter fun x => (128 * (x 0).val + (x 2).val / 128) / 200 % 2 = c.val

/-- A buffer's part, divided into parts indexed by a number, is the separate ownership of these. -/
theorem deal {n : ℕ} {ℓ : Loc nD τ sig} (I : Finset (Idx ℓ)) (S : Fin n → Finset (Idx ℓ)) (key : Idx ℓ → ℕ)
    (hS : ∀ i x, x ∈ S i ↔ x ∈ I ∧ key x = i.val) (hI : ∀ x ∈ I, key x < n) (f : Buf (Elt F) ℓ) :
    (ℓ ↦[I]{fullShare} f : sProp 𝕄) = bigSep Finset.univ fun i => (ℓ ↦[S i]{fullShare} f : sProp 𝕄) := by
  have e : Finset.univ.biUnion S = I := by
    ext x
    simp only [Finset.mem_biUnion, Finset.mem_univ, _root_.true_and]
    exact ⟨fun ⟨i, hi⟩ => ((hS i x).1 hi).1, fun hx => ⟨⟨key x, hI x hx⟩, (hS _ x).2 ⟨hx, rfl⟩⟩⟩
  rw [← e]
  refine pointsTo_biUnion Finset.univ (ℓ := ℓ) S ?_
  intro i _ j _ hij
  refine Finset.disjoint_left.2 fun x hi hj => hij (Fin.ext ?_)
  exact ((hS i x).1 hi).2.symm.trans ((hS j x).1 hj).2

/-! ## What a core and a tile are handed, at the contents `f` of the part that is written -/

/-- The first call's core: half of the transposed indices' share, its part of the list. -/
def L0 (d : Dev nD) (f : S819200.Idx → Elt F .i32) (c : Fin 2) : sProp 𝕄 :=
  iprop((trLoc d ↦{ShareLeaves.leaf 1 fullShare c} TR m d) ∗ (ixLoc d ↦[coreList c]{fullShare} f))

/-- The first call's tile. -/
def T0 (d : Dev nD) (f : S819200.Idx → Elt F .i32) (c : Fin 2) (s : Fin 16) : sProp 𝕄 :=
  iprop((trLoc d ↦{ShareLeaves.leaf 4 (ShareLeaves.leaf 1 fullShare c) s} TR m d) ∗ (ixLoc d ↦[listSet (coords0 c s)]{fullShare} f))

/-- The second call's core: half of the list's and of the table's share, its part of the output. -/
def L1 (d : Dev nD) (f : S50x64x16384.Idx → Elt F .f32) (c : Fin 2) : sProp 𝕄 :=
  iprop((ixLoc d ↦{ShareLeaves.leaf 1 fullShare c} LS m d) ∗ (tbLoc d ↦{ShareLeaves.leaf 1 fullShare c} TB m d) ∗ (outLoc d ↦[coreOut c]{fullShare} f))

/-- The second call's tile. -/
def T1 (d : Dev nD) (f : S50x64x16384.Idx → Elt F .f32) (c : Fin 2) (s : Fin 16) : sProp 𝕄 :=
  iprop((ixLoc d ↦{ShareLeaves.leaf 4 (ShareLeaves.leaf 1 fullShare c) s} LS m d)
    ∗ (tbLoc d ↦{ShareLeaves.leaf 4 (ShareLeaves.leaf 1 fullShare c) s} TB m d) ∗ (outLoc d ↦[outSet (coords1 c s)]{fullShare} f))

/-- The list is dealt to the two cores. -/
theorem list_cores (d : Dev nD) (f : S819200.Idx → Elt F .i32) :
    (ixLoc d ↦{fullShare} f : sProp 𝕄) = bigSep Finset.univ fun c : Fin 2 => (ixLoc d ↦[coreList c]{fullShare} f : sProp 𝕄) :=
  deal (ℓ := ixLoc d) Finset.univ coreList (fun y : S819200.Idx => (y 0).val / 16384 % 2) (fun c y => by simp [coreList])
    (fun y _ => Nat.mod_lt _ (by decide)) f

/-- A core's part of the list is dealt to its sixteen tiles. -/
theorem list_tiles (d : Dev nD) (c : Fin 2) (f : S819200.Idx → Elt F .i32) :
    (ixLoc d ↦[coreList c]{fullShare} f : sProp 𝕄) = bigSep Finset.univ fun s : Fin 16 => (ixLoc d ↦[listSet (coords0 c s)]{fullShare} f : sProp 𝕄) :=
  deal (ℓ := ixLoc d) (coreList c) (fun s : Fin 16 => listSet (coords0 c s)) (fun y : S819200.Idx => (y 0).val / 16384 % 32 / 2)
    (fun s y => by
      simp only [listSet, coreList, Finset.mem_filter, Finset.mem_univ, _root_.true_and]
      show _ = 2 * s.val + c.val ↔ _
      have := c.isLt
      omega)
    (fun y _ => by show _ < 16; omega) f

/-- The output is dealt to the two cores. -/
theorem out_cores (d : Dev nD) (f : S50x64x16384.Idx → Elt F .f32) :
    (outLoc d ↦{fullShare} f : sProp 𝕄) = bigSep Finset.univ fun c : Fin 2 => (outLoc d ↦[coreOut c]{fullShare} f : sProp 𝕄) :=
  deal (ℓ := outLoc d) Finset.univ coreOut (fun x : S50x64x16384.Idx => (128 * (x 0).val + (x 2).val / 128) / 200 % 2) (fun c x => by simp [coreOut])
    (fun y _ => Nat.mod_lt _ (by decide)) f

/-- A core's part of the output is dealt to its sixteen tiles. -/
theorem out_tiles (d : Dev nD) (c : Fin 2) (f : S50x64x16384.Idx → Elt F .f32) :
    (outLoc d ↦[coreOut c]{fullShare} f : sProp 𝕄) = bigSep Finset.univ fun s : Fin 16 => (outLoc d ↦[outSet (coords1 c s)]{fullShare} f : sProp 𝕄) :=
  deal (ℓ := outLoc d) (coreOut c) (fun s : Fin 16 => outSet (coords1 c s)) (fun x : S50x64x16384.Idx => (128 * (x 0).val + (x 2).val / 128) / 200 / 2)
    (fun s x => by
      simp only [outSet, coreOut, Finset.mem_filter, Finset.mem_univ, _root_.true_and]
      show _ = 2 * s.val + c.val ↔ _
      have := c.isLt
      omega)
    (fun x _ => by
      have h0 : (x 0).val < 50 := (x 0).isLt
      have h2 : (x 2).val < 16384 := (x 2).isLt
      show _ < 16
      omega) f

/-- The first call's arrays are what its two cores are handed. -/
theorem cores0 (d : Dev nD) (f : S819200.Idx → Elt F .i32) :
    (iprop((trLoc d ↦{fullShare} TR m d) ∗ (ixLoc d ↦{fullShare} f)) : sProp 𝕄) = bigSep Finset.univ fun c : Fin 2 => L0 m d f c := by
  rw [list_cores]
  refine (congrArg (fun A : sProp 𝕄 => iprop(A ∗ _)) (ShareLeaves.pointsTo_leaves (ℓ := trLoc d) Finset.univ (TR m d) 1 fullShare)).trans ?_
  exact (bigSep_sep' (s := (Finset.univ : Finset (Fin 2))) (Φ := fun c => (trLoc d ↦{ShareLeaves.leaf 1 fullShare c} TR m d : sProp 𝕄))
    (Ψ := fun c => (ixLoc d ↦[coreList c]{fullShare} f : sProp 𝕄))).symm

/-- What a core of the first call is handed is what its tiles are. -/
theorem tiles0 (d : Dev nD) (f : S819200.Idx → Elt F .i32) (c : Fin 2) : L0 m d f c = bigSep Finset.univ fun s : Fin 16 => T0 m d f c s := by
  unfold L0
  rw [list_tiles]
  refine (congrArg (fun A : sProp 𝕄 => iprop(A ∗ _)) (ShareLeaves.pointsTo_leaves (ℓ := trLoc d) Finset.univ (TR m d) 4 (ShareLeaves.leaf 1 fullShare c))).trans ?_
  exact (bigSep_sep' (s := (Finset.univ : Finset (Fin 16)))
    (Φ := fun s => (trLoc d ↦{ShareLeaves.leaf 4 (ShareLeaves.leaf 1 fullShare c) s} TR m d : sProp 𝕄))
    (Ψ := fun s => (ixLoc d ↦[listSet (coords0 c s)]{fullShare} f : sProp 𝕄))).symm

/-- The second call's arrays are what its two cores are handed. -/
theorem cores1 (d : Dev nD) (f : S50x64x16384.Idx → Elt F .f32) :
    (iprop((ixLoc d ↦{fullShare} LS m d) ∗ (tbLoc d ↦{fullShare} TB m d) ∗ (outLoc d ↦{fullShare} f)) : sProp 𝕄)
      = bigSep Finset.univ fun c : Fin 2 => L1 m d f c := by
  rw [out_cores]
  refine (congrArg₂ (fun A B : sProp 𝕄 => iprop(A ∗ B ∗ _)) (ShareLeaves.pointsTo_leaves (ℓ := ixLoc d) Finset.univ (LS m d) 1 fullShare)
    (ShareLeaves.pointsTo_leaves (ℓ := tbLoc d) Finset.univ (TB m d) 1 fullShare)).trans ?_
  refine (congrArg (fun B : sProp 𝕄 => iprop(_ ∗ B)) (bigSep_sep' (s := (Finset.univ : Finset (Fin 2)))
    (Φ := fun c => (tbLoc d ↦{ShareLeaves.leaf 1 fullShare c} TB m d : sProp 𝕄))
    (Ψ := fun c => (outLoc d ↦[coreOut c]{fullShare} f : sProp 𝕄))).symm).trans ?_
  exact (bigSep_sep' (s := (Finset.univ : Finset (Fin 2))) (Φ := fun c => (ixLoc d ↦{ShareLeaves.leaf 1 fullShare c} LS m d : sProp 𝕄))
    (Ψ := fun c => iprop((tbLoc d ↦{ShareLeaves.leaf 1 fullShare c} TB m d) ∗ (outLoc d ↦[coreOut c]{fullShare} f)))).symm

/-- What a core of the second call is handed is what its tiles are. -/
theorem tiles1 (d : Dev nD) (f : S50x64x16384.Idx → Elt F .f32) (c : Fin 2) : L1 m d f c = bigSep Finset.univ fun s : Fin 16 => T1 m d f c s := by
  unfold L1
  rw [out_tiles]
  refine (congrArg₂ (fun A B : sProp 𝕄 => iprop(A ∗ B ∗ _))
    (ShareLeaves.pointsTo_leaves (ℓ := ixLoc d) Finset.univ (LS m d) 4 (ShareLeaves.leaf 1 fullShare c))
    (ShareLeaves.pointsTo_leaves (ℓ := tbLoc d) Finset.univ (TB m d) 4 (ShareLeaves.leaf 1 fullShare c))).trans ?_
  refine (congrArg (fun B : sProp 𝕄 => iprop(_ ∗ B)) (bigSep_sep' (s := (Finset.univ : Finset (Fin 16)))
    (Φ := fun s => (tbLoc d ↦{ShareLeaves.leaf 4 (ShareLeaves.leaf 1 fullShare c) s} TB m d : sProp 𝕄))
    (Ψ := fun s => (outLoc d ↦[outSet (coords1 c s)]{fullShare} f : sProp 𝕄))).symm).trans ?_
  exact (bigSep_sep' (s := (Finset.univ : Finset (Fin 16)))
    (Φ := fun s => (ixLoc d ↦{ShareLeaves.leaf 4 (ShareLeaves.leaf 1 fullShare c) s} LS m d : sProp 𝕄))
    (Ψ := fun s => iprop((tbLoc d ↦{ShareLeaves.leaf 4 (ShareLeaves.leaf 1 fullShare c) s} TB m d) ∗ (outLoc d ↦[outSet (coords1 c s)]{fullShare} f)))).symm

end Cert.Proof.KernelIdeal

end
-- ==== Proof.LaunchKernelIdeal.lean ====
/-
  The launch: what the handshakes carry, the tiles' obligations, the TensorCore's run and the program's.
-/
module

public import proofs.«01_k».proof.Proof.DealKernelIdeal

@[expose] public section

noncomputable section

namespace Cert.Proof.KernelIdeal

open Cert.KernelIdeal Cert.KernelIdeal.Gen Cert.Proof.Steps
open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
local notation "𝕄" => MT nD τ sig (HIx 2) (Elt F) ℕ UU ℕ

variable (m : (a : Loc nD τ sig) → Buf (Elt F) a) (ρ : Dev nD → PrngReg)

/-! ## What the handshakes carry -/

/-- Each call takes its arrays, the written one at the contents it is found with, and brings them back with the written
    one at the call's result. -/
def P : (K (F := F)).Pay (nD := nD) (Val := Elt F) (Name := ℕ) (U := UU) where
  st := fun q d c => match q with
    | 0 => L0 m d (m (ixLoc d)) (Fin.cast (nCore_eq 0) c)
    | 1 => L1 m d (m (outLoc d)) (Fin.cast (nCore_eq 1) c)
  dn := fun q d c => match q with
    | 0 => L0 m d (LS m d) (Fin.cast (nCore_eq 0) c)
    | 1 => L1 m d (OUT m d) (Fin.cast (nCore_eq 1) c)
  go := fun q d c i => match q with
    | 0 => T0 m d (m (ixLoc d)) (Fin.cast (nCore_eq 0) c) (Fin.cast (nSub_eq 0) i)
    | 1 => T1 m d (m (outLoc d)) (Fin.cast (nCore_eq 1) c) (Fin.cast (nSub_eq 1) i)
  td := fun q d c i => match q with
    | 0 => T0 m d (LS m d) (Fin.cast (nCore_eq 0) c) (Fin.cast (nSub_eq 0) i)
    | 1 => T1 m d (OUT m d) (Fin.cast (nCore_eq 1) c) (Fin.cast (nSub_eq 1) i)
  x := fun _ _ => iprop(emp)

/-- What a core of the first call is handed can be stored in a handshake. -/
instance L0_storable (d : Dev nD) (f : S819200.Idx → Elt F .i32) (c : Fin 2) : BI.Storable (upEmb : UEmb _ 𝕄) (L0 m d f c) := by
  unfold L0; infer_instance
/-- So can what its tile is. -/
instance T0_storable (d : Dev nD) (f : S819200.Idx → Elt F .i32) (c : Fin 2) (s : Fin 16) : BI.Storable (upEmb : UEmb _ 𝕄) (T0 m d f c s) := by
  unfold T0; infer_instance
/-- So can what a core of the second call is. -/
instance L1_storable (d : Dev nD) (f : S50x64x16384.Idx → Elt F .f32) (c : Fin 2) : BI.Storable (upEmb : UEmb _ 𝕄) (L1 m d f c) := by
  unfold L1; infer_instance
/-- So can what its tile is. -/
instance T1_storable (d : Dev nD) (f : S50x64x16384.Idx → Elt F .f32) (c : Fin 2) (s : Fin 16) : BI.Storable (upEmb : UEmb _ 𝕄) (T1 m d f c s) := by
  unfold T1; infer_instance

/-- Everything the handshakes carry can be stored in them. -/
instance P_storable : (P (F := F) m).IsStorable where
  st q d c := match q with
    | 0 => L0_storable m d _ _
    | 1 => L1_storable m d _ _
  dn q d c := match q with
    | 0 => L0_storable m d _ _
    | 1 => L1_storable m d _ _
  go q d c i := match q with
    | 0 => T0_storable m d _ _ _
    | 1 => T1_storable m d _ _ _
  td q d c i := match q with
    | 0 => T0_storable m d _ _ _
    | 1 => T1_storable m d _ _ _

/-! ## The tiles' obligations -/

/-- The first call's task on a vector subcore. -/
theorem defs₀_vector0 (c : Fin τ.nSC) (s : Fin τ.nSub) :
    defs₀ (F := F) (.scVector c s) 0 () = SparseCore.onTile hcore0 hsub0 (fun c s =>
      cc0__detile_kernel (coords0 c s) (Memref.whole main_v0_scv) (Memref.isWhole_whole _) (Memref.whole main_v1_scv) (Memref.isWhole_whole _)
        (Memref.whole cc0_scratch0) (Memref.isWhole_whole _) (Memref.whole cc0_scratch1) (Memref.isWhole_whole _) cc0_scoped0 cc0_scoped1 cc0_scoped2 cc0_scoped3) ⟨⟩ c s := rfl

/-- The second call's task on a vector subcore. -/
theorem defs₀_vector1 (c : Fin τ.nSC) (s : Fin τ.nSub) :
    defs₀ (F := F) (.scVector c s) 1 () = SparseCore.onTile hcore1 hsub1 (fun c s =>
      cc1__gather_kernel (coords1 c s) (Memref.whole main_v1_scv) (Memref.isWhole_whole _) (Memref.whole main_v2_scv) (Memref.isWhole_whole _)
        (Memref.whole main_v3_scv) (Memref.isWhole_whole _) (Memref.whole cc1_scratch0) (Memref.isWhole_whole _) (Memref.whole cc1_scratch1) (Memref.isWhole_whole _)
        (Memref.whole cc1_scratch2) (Memref.isWhole_whole _) cc1_scratch3 cc1_scratch4 cc1_scratch5 cc1_scratch6
        cc1_scoped0 cc1_scoped1 cc1_scoped2 cc1_scoped3 cc1_scoped4) ⟨⟩ c s := rfl

/-- What a tile's run leaves, as the launch asks for it: its waits may also be those of the call. -/
theorem leave_launch {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW, HO⟩
  isplitl [HA]
  · iexact HA
  isplitl [HB]
  · iexact HB
  isplitl [HC]
  · iexact HC
  iexists W'
  isplitr
  · ipureintro
    intro p hp
    rcases hW p hp with h | h
    · exact Or.inl h
    · exact Or.inr (Or.inl h)
  · iexact HO

set_option maxRecDepth 16384 in
/-- Every tile of the first call runs its task, from what it is handed to what it hands back. -/
theorem tileObl0 : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector0]
  simp only [SparseCore.onTile, hci, and_self, ↓reduceDIte]
  exact (detile_body facts d (coords0 ⟨_, hci.1⟩ ⟨_, hci.2⟩) (TR m d) (m (ixLoc d)) O W hO).trans (wp_mono frame _ _ fun _ => leave_launch)

set_option maxRecDepth 16384 in
/-- Every tile of the second call runs its task, from what it is handed to what it hands back. -/
theorem tileObl1 (h : PreOK m) : (K (F := F)).TileObl (D (F := F)) 𝒱 (P m) v₀ 1 := by
  intro d c i O W hO _ _
  simp only [show (P m).ox = fun _ _ => 0 from rfl, add_zero]
  have hci : ((K (F := F)).core 1 c).val < grid1.bound 0 ∧ ((K (F := F)).sub 1 i).val < grid1.bound 1 := ⟨c.isLt, i.isLt⟩
  change _ ⊢ wp _ _ _ (Pipeline.liftProg (defs₀ (F := F) (.scVector ((K (F := F)).core 1 c) ((K (F := F)).sub 1 i)) 1 ())) _
  refine BI.Entails.trans ?_ (Pipeline.wp_liftProg (D (F := F)) (Pipeline.defs_kernel pcfgs defs₀) 𝒱₀ _ Set.univ none _ _)
  rw [defs₀_vector1]
  simp only [SparseCore.onTile, hci, and_self, ↓reduceDIte]
  exact (gather_body facts d (coords1 ⟨_, hci.1⟩ ⟨_, hci.2⟩) (LS m d) (LS_lt m h d) (TB m d) (m (outLoc d)) O W hO).trans
    (wp_mono frame _ _ fun _ => leave_launch)

/-- The first call's operands split into its tasks', and its results gather from theirs. -/
theorem vecSplit0 : (K (F := F)).VecSplit' (P m) 0 := by
  intro d c
  show L0 m d (m (ixLoc d)) (Fin.cast (nCore_eq 0) c) ⊢ |={Set.univ}=> (iprop((bigSep Finset.univ fun i : Fin 16 => T0 m d (m (ixLoc d)) (Fin.cast (nCore_eq 0) c) i)
    ∗ ((bigSep Finset.univ fun i : Fin 16 => T0 m d (LS m d) (Fin.cast (nCore_eq 0) c) i) -∗ L0 m d (LS m d) (Fin.cast (nCore_eq 0) c))) : sProp 𝕄)
  rw [tiles0, tiles0]
  iintro H
  imodintro
  isplitl [H]
  · iexact H
  · iintro H
    iexact H

/-- The second call's operands split into its tasks', and its results gather from theirs. -/
theorem vecSplit1 : (K (F := F)).VecSplit' (P m) 1 := by
  intro d c
  show L1 m d (m (outLoc d)) (Fin.cast (nCore_eq 1) c) ⊢ |={Set.univ}=> (iprop((bigSep Finset.univ fun i : Fin 16 => T1 m d (m (outLoc d)) (Fin.cast (nCore_eq 1) c) i)
    ∗ ((bigSep Finset.univ fun i : Fin 16 => T1 m d (OUT m d) (Fin.cast (nCore_eq 1) c) i) -∗ L1 m d (OUT m d) (Fin.cast (nCore_eq 1) c))) : sProp 𝕄)
  rw [tiles1, tiles1]
  iintro H
  imodintro
  isplitl [H]
  · iexact H
  · iintro H
    iexact H

/-! ## The ghost state the launch starts from -/

/-- The handshakes' cells and tokens, and no transfer counted. -/
def u₀ : UU := (initOf (K (F := F)).hsCells (K (F := F)).hsToks, 1)

/-- It gives the handshakes theirs. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 2 => (P m).x q thr) := by
  unfold u₀
  iintro Hu
  ihave H := (ownU_pair (initOf (K (F := F)).hsCells (K (F := F)).hsToks) (1 : Counters)) $$ Hu
  icases H with ⟨HH, -⟩
  imodintro
  isplitl [HH]
  · iexact HH
  rw [show (bigSep Finset.univ fun thr : Thread nD τ => bigSep Finset.univ fun q : Fin 2 => (P (F := F) m).x q thr) = iprop(emp) from
    (bigSep_congr fun _ _ => bigSep_emp_const _).trans (bigSep_emp_const _),
    show (bigSep Finset.univ fun _ : Dev nD => (iprop(emp) : sProp 𝕄)) = iprop(emp) from bigSep_emp_const _]
  isplitr
  · iempintro
  · iempintro

end Cert.Proof.KernelIdeal

end
-- ==== Proof.MainKernelIdeal.lean ====
/-
  The TensorCore's run: two host steps around each SparseCore call, with what every buffer then holds; and the whole
  program's run, from which the claims read their ends.
-/
module

public import proofs.«01_k».proof.Proof.LaunchKernelIdeal

@[expose] public section

noncomputable section

namespace Cert.Proof.KernelIdeal

open Cert.KernelIdeal Cert.KernelIdeal.Gen Cert.Proof.Steps
open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held wp_hlo_within)

variable {F : FTy → Type} [FloatOps F]
local notation "𝕄" => MT nD τ sig (HIx 2) (Elt F) ℕ UU ℕ

variable (m : (a : Loc nD τ sig) → Buf (Elt F) a) (ρ : Dev nD → PrngReg)

/-! ## The host steps -/

/-- The index array's transposition. -/
abbrev opTr : HloOp τ sig (Elt F) :=
  StableHlo.unary main_arg0 main_v0 ((transpose S50x16384 [1, 0] · transposes_S16384x50_S50x16384_1_0) : (⟨S16384x50, .i32⟩ : BufTy).Contents (Elt F) → (⟨S50x16384, .i32⟩ : BufTy).Contents (Elt F))
/-- The constant the padding is made of. -/
abbrev opC : HloOp τ sig (Elt F) := StableHlo.nullary main_c (constantI S_ 32 0#32)
/-- The constant as a float. -/
abbrev opCv : HloOp τ sig (Elt F) := StableHlo.TRef.unary (.of main_c : StableHlo.TRef sig ⟨S_, .i32⟩) main_call0.v0 (sitofp .f32)
/-- The table's padding. -/
abbrev opPad : HloOp τ sig (Elt F) :=
  StableHlo.TRef.binary (.of main_arg1 : StableHlo.TRef sig ⟨S1000000x64, .f32⟩) main_call0.v0 main_call0.v1
    (fun x v => pad S1000000x128 ![0, 0] ![0, 64] ![0, 0] x v pads_S1000000x64_S1000000x128_000_0640 h_S_)
/-- The output's transposition. -/
abbrev opRes : HloOp τ sig (Elt F) :=
  StableHlo.unary main_v3 main_v4 ((transpose S16384x50x64 [2, 0, 1] · transposes_S50x64x16384_S16384x50x64_2_0_1) : (⟨S50x64x16384, .f32⟩ : BufTy).Contents (Elt F) → (⟨S16384x50x64, .f32⟩ : BufTy).Contents (Elt F))

/-- A host buffer's name on the device. -/
abbrev dr (r : Ref sig .tc) : DevRef τ sig := Proc.devRef .tc r

/-- The nine buffers of the host. -/
abbrev S9 : Finset (DevRef τ sig) :=
  {dr main_arg0, dr main_arg1, dr main_v0, dr main_v1, dr main_c, dr main_call0_v0, dr main_v2, dr main_v3, dr main_v4}

/-! ## What the buffers hold after each step -/

/-- At the start. -/
def V0 (d : Dev nD) : Valuation τ sig (Elt F) := fun b => m (d, b)
/-- After the indices' transposition. -/
def V1 (d : Dev nD) : Valuation τ sig (Elt F) := (opTr (F := F)).result (V0 m d)
/-- After the first call. -/
def V2 (d : Dev nD) : Valuation τ sig (Elt F) := Function.update (V1 m d) (dr main_v1) (LS m d)
/-- After the constant and its conversion. -/
def V4 (d : Dev nD) : Valuation τ sig (Elt F) := (opCv (F := F)).result ((opC (F := F)).result (V2 m d))
/-- After the table's padding. -/
def V5 (d : Dev nD) : Valuation τ sig (Elt F) := (opPad (F := F)).result (V4 m d)
/-- After the second call. -/
def V6 (d : Dev nD) : Valuation τ sig (Elt F) := Function.update (V5 m d) (dr main_v3) (OUT m d)
/-- At the end. -/
def V7 (d : Dev nD) : Valuation τ sig (Elt F) := (opRes (F := F)).result (V6 m d)

/-- The first call changes the list alone. -/
theorem V2_ne (d : Dev nD) {b : DevRef τ sig} (h : b ≠ dr main_v1) : V2 m d b = V1 m d b := Function.update_of_ne h _ _
/-- It leaves the list at its result. -/
theorem V2_ix (d : Dev nD) : V2 m d (dr main_v1) = LS m d := Function.update_self _ _ _
/-- The second call changes its output alone. -/
theorem V6_ne (d : Dev nD) {b : DevRef τ sig} (h : b ≠ dr main_v3) : V6 m d b = V5 m d b := Function.update_of_ne h _ _
/-- It leaves its output at its result. -/
theorem V6_out (d : Dev nD) : V6 m d (dr main_v3) = OUT m d := Function.update_self _ _ _

/-- The first step leaves the transposed indices. -/
theorem V1_tr (d : Dev nD) : V1 m d (dr main_v0) = TR m d := StableHlo.unary_result' ..
/-- It changes nothing else. -/
theorem V1_ne (d : Dev nD) {r : Ref sig .tc} (h : r ≠ main_v0) : V1 m d (dr r) = m (d, dr r) := StableHlo.unary_result_ne' _ _ _ _ h

/-- The constant is converted. -/
theorem V4_cv (d : Dev nD) : V4 m d (dr main_call0_v0) = sitofp (F := F) .f32 (constantI S_ 32 0#32) := by
  refine (StableHlo.unary_result' ..).trans ?_
  exact congrArg (sitofp (F := F) .f32) (StableHlo.nullary_result' ..)
/-- The two steps change only the constant and its conversion. -/
theorem V4_ne (d : Dev nD) {r : Ref sig .tc} (h : r ≠ main_call0_v0) (h' : r ≠ main_c) : V4 m d (dr r) = V2 m d (dr r) :=
  (StableHlo.unary_result_ne' _ _ _ _ h).trans (StableHlo.nullary_result_ne' _ _ _ h')
/-- The padding changes the padded table alone. -/
theorem V5_ne (d : Dev nD) {r : Ref sig .tc} (h : r ≠ main_v2) : V5 m d (dr r) = V4 m d (dr r) :=
  StableHlo.binary_result_ne' _ _ _ _ _ h
/-- The last step changes the result alone. -/
theorem V7_ne (d : Dev nD) {r : Ref sig .tc} (h : r ≠ main_v4) : V7 m d (dr r) = V6 m d (dr r) := StableHlo.unary_result_ne' _ _ _ _ h

/-- The first call finds the list at its first contents. -/
theorem V1_ix (d : Dev nD) : V1 m d (dr main_v1) = m (ixLoc d) := V1_ne m d (by decide)
/-- A buffer none of the first six steps writes is as at the start. -/
theorem V5_keep (d : Dev nD) {r : Ref sig .tc} (h2 : r ≠ main_v2) (hc : r ≠ main_c) (hc' : r ≠ main_call0_v0) (h1 : dr r ≠ dr main_v1) (h0 : r ≠ main_v0) :
    V5 m d (dr r) = m (d, dr r) := by
  rw [V5_ne m d h2, V4_ne m d hc' hc, V2_ne m d h1, V1_ne m d h0]
/-- The second call finds the list at the first call's result. -/
theorem V5_ix (d : Dev nD) : V5 m d (dr main_v1) = LS m d := by
  rw [V5_ne m d (by decide), V4_ne m d (by decide) (by decide), V2_ix]
/-- It finds the padded table. -/
theorem V5_tb (d : Dev nD) : V5 m d (dr main_v2) = TB m d := by
  refine (StableHlo.binary_result' ..).trans ?_
  have ha : V4 m d (dr main_arg1) = m (bLoc d) := by
    rw [V4_ne m d (by decide) (by decide), V2_ne m d (by decide), V1_ne m d (by decide)]
  exact congrArg₂ (fun x v => pad S1000000x128 ![0, 0] ![0, 64] ![0, 0] x v pads_S1000000x64_S1000000x128_000_0640 h_S_) ha (V4_cv m d)
/-- It finds its output at the first contents. -/
theorem V5_out (d : Dev nD) : V5 m d (dr main_v3) = m (outLoc d) := V5_keep m d (by decide) (by decide) (by decide) (by decide) (by decide)
/-- At the end the indices are as at the start. -/
theorem V7_a (d : Dev nD) : V7 m d (dr main_arg0) = m (aLoc d) := by
  rw [V7_ne m d (by decide), V6_ne m d (by decide)]
  exact V5_keep m d (by decide) (by decide) (by decide) (by decide) (by decide)
/-- So is the table. -/
theorem V7_b (d : Dev nD) : V7 m d (dr main_arg1) = m (bLoc d) := by
  rw [V7_ne m d (by decide), V6_ne m d (by decide)]
  exact V5_keep m d (by decide) (by decide) (by decide) (by decide) (by decide)
/-- The result is at its value. -/
theorem V7_res (d : Dev nD) : V7 m d (dr main_v4) = RES m d := by
  refine (StableHlo.unary_result' ..).trans ?_
  exact congrArg (transpose S16384x50x64 [2, 0, 1] · transposes_S50x64x16384_S16384x50x64_2_0_1) (V6_out m d)

/-! ## The nine buffers held together -/

set_option maxRecDepth 16384 in
/-- The nine buffers held are the nine held one by one. -/
theorem held_S9 (d : Dev nD) (W : Valuation τ sig (Elt F)) :
    (held (SparseCore.T d) S9 W : sProp 𝕄) = iprop((aLoc d ↦{fullShare} W (dr main_arg0)) ∗ (bLoc d ↦{fullShare} W (dr main_arg1))
      ∗ (trLoc d ↦{fullShare} W (dr main_v0)) ∗ (ixLoc d ↦{fullShare} W (dr main_v1)) ∗ (((d, dr main_c) : Loc nD τ sig) ↦{fullShare} W (dr main_c))
      ∗ (((d, dr main_call0_v0) : Loc nD τ sig) ↦{fullShare} W (dr main_call0_v0)) ∗ (tbLoc d ↦{fullShare} W (dr main_v2))
      ∗ (outLoc d ↦{fullShare} W (dr main_v3)) ∗ (resLoc d ↦{fullShare} W (dr main_v4))) := by
  unfold held
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

set_option maxRecDepth 16384 in
/-- The buffers the TensorCore starts with are these nine. -/
theorem unscoped_held (d : Dev nD) : (unscopedBufs d (fun b => m ((d.tc : Thread nD τ).loc b)) : sProp 𝕄) = held (SparseCore.T d) S9 (V0 m d) := by
  rw [held_S9]
  unfold unscopedBufs
  rw [show (Finset.univ.filter fun b : Ref sig .tc => ¬ b.isScoped)
      = {main_arg0, main_arg1, main_v0, main_v1, main_c, main_call0_v0, main_v2, main_v3, main_v4} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]
  rfl

/-! ## The calls' operands and results -/

/-- The cores' operands of the first call are its two arrays. -/
theorem st0_eq (d : Dev nD) : (bigSep Finset.univ fun c : Fin ((K (F := F)).nCore 0) => (P m).st 0 d c : sProp 𝕄)
    = iprop((trLoc d ↦{fullShare} TR m d) ∗ (ixLoc d ↦{fullShare} m (ixLoc d))) := (cores0 m d (m (ixLoc d))).symm
/-- Their results are the same, the list at its value. -/
theorem dn0_eq (d : Dev nD) : (bigSep Finset.univ fun c : Fin ((K (F := F)).nCore 0) => (P m).dn 0 d c : sProp 𝕄)
    = iprop((trLoc d ↦{fullShare} TR m d) ∗ (ixLoc d ↦{fullShare} LS m d)) := (cores0 m d (LS m d)).symm
/-- The cores' operands of the second call are its three arrays. -/
theorem st1_eq (d : Dev nD) : (bigSep Finset.univ fun c : Fin ((K (F := F)).nCore 1) => (P m).st 1 d c : sProp 𝕄)
    = iprop((ixLoc d ↦{fullShare} LS m d) ∗ (tbLoc d ↦{fullShare} TB m d) ∗ (outLoc d ↦{fullShare} m (outLoc d))) := (cores1 m d (m (outLoc d))).symm
/-- Their results are the same, the output at its value. -/
theorem dn1_eq (d : Dev nD) : (bigSep Finset.univ fun c : Fin ((K (F := F)).nCore 1) => (P m).dn 1 d c : sProp 𝕄)
    = iprop((ixLoc d ↦{fullShare} LS m d) ∗ (tbLoc d ↦{fullShare} TB m d) ∗ (outLoc d ↦{fullShare} OUT m d)) := (cores1 m d (OUT m d)).symm

/-! ## The TensorCore's run -/

/-- What the program ends with: the arguments as they were, the result at its value. -/
abbrev FIN (d : Dev nD) : sProp 𝕄 := iprop((aLoc d ↦{fullShare} m (aLoc d)) ∗ (bLoc d ↦{fullShare} m (bLoc d)) ∗ (resLoc d ↦{fullShare} RES m d))

/-- The transposition's buffers are among the nine. -/
theorem hTr : (opTr (F := F)).bufs ⊆ S9 := show ({dr main_arg0, dr main_v0} : Finset (DevRef τ sig)) ⊆ S9 by decide
/-- The constant's is. -/
theorem hC : (opC (F := F)).bufs ⊆ S9 := show ({dr main_c} : Finset (DevRef τ sig)) ⊆ S9 by decide
/-- The conversion's are. -/
theorem hCv : (opCv (F := F)).bufs ⊆ S9 := show ({dr main_c, dr main_call0_v0} : Finset (DevRef τ sig)) ⊆ S9 by decide
/-- The padding's are. -/
theorem hPad : (opPad (F := F)).bufs ⊆ S9 := show ({dr main_arg1, dr main_call0_v0, dr main_v2} : Finset (DevRef τ sig)) ⊆ S9 by decide
/-- The last transposition's are. -/
theorem hRes : (opRes (F := F)).bufs ⊆ S9 := show ({dr main_v3, dr main_v4} : Finset (DevRef τ sig)) ⊆ S9 by decide

set_option maxRecDepth 16384 in
/-- The TensorCore runs to the end, launching each call over its arrays. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 2 ∗ FIN m d ∗ (K (F := F)).tcEnd d) := by
  unfold SparseCore.Cfg.tcRes SparseCore.Cfg.tcEnd
  rw [unscoped_held]
  simp only [main, fn_pad.body, wp_bind, wp_pure]
  iintro ⟨#Hctx, Hst, ⟨Hb, Hheld, Hts, -⟩, -⟩
  iapply (wp_hlo_within 𝒱 (SparseCore.T d) none Set.univ (op := opTr) (S := S9) hTr (V := V0 m d)) $$ [Hb Hheld]
  · isplitl [Hb] <;> iassumption
  iintro ⟨Hb, Hheld⟩
  rw [wp_ret]; imodintro
  ihave Hh := (Entails.of_eq ((congrArg (held (SparseCore.T d) S9) (show (opTr (F := F)).result (V0 m d) = V1 m d from rfl)).trans (held_S9 (F := F) d (V1 m d)))) $$ Hheld
  rw [V1_tr, V1_ix]
  icases Hh with ⟨Ha, Hb1, Htr, Hix, Hc, Hcv, Htb, Hout, Hr⟩
  iapply ((K (F := F)).wp_run (D (F := F)) 𝒱 (EH := EH) (P := P m) κ d 0) $$ [Hst Ha Hb1 Htr Hix Hc Hcv Htb Hout Hr Hb Hts]
  isplitr
  · iexact Hctx
  isplitl [Hst]
  · iexact Hst
  isplitl [Htr Hix]
  · rw [st0_eq]
    isplitl [Htr] <;> iassumption
  iintro ⟨Hst, Hdn⟩
  ihave Hdn' := (Entails.of_eq (dn0_eq m d)) $$ Hdn
  icases Hdn' with ⟨Htr, Hix⟩
  iapply (wp_hlo_within 𝒱 (SparseCore.T d) none Set.univ (op := opC) (S := S9) hC (V := V2 m d)) $$ [Ha Hb1 Htr Hix Hc Hcv Htb Hout Hr Hb]
  · isplitl [Hb]
    · iexact Hb
    rw [held_S9, V2_ix, V2_ne m d (b := dr main_arg0) (by decide), V2_ne m d (b := dr main_arg1) (by decide), V2_ne m d (b := dr main_v0) (by decide),
      V2_ne m d (b := dr main_c) (by decide), V2_ne m d (b := dr main_call0_v0) (by decide), V2_ne m d (b := dr main_v2) (by decide),
      V2_ne m d (b := dr main_v3) (by decide), V2_ne m d (b := dr main_v4) (by decide), V1_tr]
    isplitl [Ha]
    · iexact Ha
    isplitl [Hb1]
    · iexact Hb1
    isplitl [Htr]
    · iexact Htr
    isplitl [Hix]
    · iexact Hix
    isplitl [Hc]
    · iexact Hc
    isplitl [Hcv]
    · iexact Hcv
    isplitl [Htb]
    · iexact Htb
    isplitl [Hout] <;> iassumption
  iintro ⟨Hb, Hheld⟩
  rw [wp_ret]; imodintro
  iapply (wp_hlo_within 𝒱 (SparseCore.T d) none Set.univ (op := opCv) (S := S9) hCv (V := (opC (F := F)).result (V2 m d))) $$ [Hb Hheld]
  · isplitl [Hb] <;> iassumption
  iintro ⟨Hb, Hheld⟩
  rw [wp_ret]; imodintro
  iapply (wp_hlo_within 𝒱 (SparseCore.T d) none Set.univ (op := opPad) (S := S9) hPad (V := V4 m d)) $$ [Hb Hheld]
  · isplitl [Hb]
    · iassumption
    · iexact Hheld
  iintro ⟨Hb, Hheld⟩
  rw [wp_ret]; imodintro
  imodintro
  ihave Hh := (Entails.of_eq ((congrArg (held (SparseCore.T d) S9) (show (opPad (F := F)).result (V4 m d) = V5 m d from rfl)).trans (held_S9 (F := F) d (V5 m d)))) $$ Hheld
  rw [V5_ix, V5_tb, V5_out]
  icases Hh with ⟨Ha, Hb1, Htr, Hix, Hc, Hcv, Htb, Hout, Hr⟩
  iapply ((K (F := F)).wp_run (D (F := F)) 𝒱 (EH := EH) (P := P m) κ d 1) $$ [Hst Ha Hb1 Htr Hix Hc Hcv Htb Hout Hr Hb Hts]
  isplitr
  · iexact Hctx
  isplitl [Hst]
  · iexact Hst
  isplitl [Hix Htb Hout]
  · rw [st1_eq]
    isplitl [Hix]
    · iexact Hix
    isplitl [Htb] <;> iassumption
  iintro ⟨Hst, Hdn⟩
  ihave Hdn' := (Entails.of_eq (dn1_eq m d)) $$ Hdn
  icases Hdn' with ⟨Hix, Htb, Hout⟩
  iapply (wp_hlo_within 𝒱 (SparseCore.T d) none Set.univ (op := opRes) (S := S9) hRes (V := V6 m d)) $$ [Ha Hb1 Htr Hix Hc Hcv Htb Hout Hr Hb]
  · isplitl [Hb]
    · iexact Hb
    rw [held_S9, V6_out, V6_ne m d (b := dr main_arg0) (by decide), V6_ne m d (b := dr main_arg1) (by decide), V6_ne m d (b := dr main_v0) (by decide),
      V6_ne m d (b := dr main_c) (by decide), V6_ne m d (b := dr main_call0_v0) (by decide), V6_ne m d (b := dr main_v2) (by decide),
      V6_ne m d (b := dr main_v1) (by decide), V6_ne m d (b := dr main_v4) (by decide), V5_ix, V5_tb]
    isplitl [Ha]
    · iexact Ha
    isplitl [Hb1]
    · iexact Hb1
    isplitl [Htr]
    · iexact Htr
    isplitl [Hix]
    · iexact Hix
    isplitl [Hc]
    · iexact Hc
    isplitl [Hcv]
    · iexact Hcv
    isplitl [Htb]
    · iexact Htb
    isplitl [Hout] <;> iassumption
  iintro ⟨Hb, Hheld⟩
  ihave Hh := (Entails.of_eq ((congrArg (held (SparseCore.T d) S9) (show (opRes (F := F)).result (V6 m d) = V7 m d from rfl)).trans (held_S9 (F := F) d (V7 m d)))) $$ Hheld
  rw [V7_a, V7_b, V7_res]
  icases Hh with ⟨Ha, Hb1, -, -, -, -, -, -, Hr⟩
  rw [wp_ret]; imodintro; imodintro
  isplitl [Hst]
  · iexact Hst
  isplitr [Hb Hts]
  · isplitl [Ha]
    · iexact Ha
    isplitl [Hb1] <;> iassumption
  isplitl [Hb] <;> iassumption

/-! ## The program's run -/

/-- What the end state then shows. -/
def fq (d : Dev nD) (s' : Phys nD τ sig (Elt F)) : Prop :=
  s'.mem.mem (aLoc d) = m (aLoc d) ∧ s'.mem.mem (bLoc d) = m (bLoc d) ∧ s'.mem.mem (resLoc d) = RES m d

/-- What the program ends with is what the end state holds. -/
theorem hfin (d : Dev nD) (s' : Phys nD τ sig (Elt F)) : iprop(FIN m d ∗ SI s') ⊢ (⌜fq m d s'⌝ : sProp 𝕄) := by
  iintro ⟨⟨Ha, Hb, Hr⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s') (ℓ := bLoc d) (I := Finset.univ) (q := fullShare) (f := m (bLoc d)))) $$ [HSI Hb]
  · isplitl [HSI] <;> iassumption
  icases H with ⟨%h2, HSI, -⟩
  ihave H := (SI_pointsTo_agree (st := s') (ℓ := resLoc d) (I := Finset.univ) (q := fullShare) (f := RES m d)) $$ [HSI Hr]
  · isplitl [HSI] <;> iassumption
  icases H with %h3
  ipureintro
  exact ⟨funext fun i => h1 i (Finset.mem_univ i), funext fun i => h2 i (Finset.mem_univ i), funext fun i => h3 i (Finset.mem_univ i)⟩

/-- Every end of the program: arguments kept, the result at its value, no count left on a semaphore. -/
def QC : PUnit × MemSt nD τ sig (Elt F) → Prop := fun r =>
  (∀ c : Dev nD, r.2.mem (aLoc c) = m (aLoc c) ∧ r.2.mem (bLoc c) = m (bLoc c) ∧ r.2.mem (resLoc c) = RES m c) ∧ r.2.sem = fun _ => 0

/-- From any memory whose indices name table rows, the program ends, and only so. -/
theorem run_main [∀ e, Nonempty (Elt F e)] (h : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq | 1 => nomatch hq)
    (fun q _ => match q with | 0 => tileObl0 m | 1 => tileObl1 m h)
    (fun q _ => match q with | 0 => SparseCore.Cfg.VecSplit.of_plain (vecSplit0 m) | 1 => SparseCore.Cfg.VecSplit.of_plain (vecSplit1 m))
    m ρ main (fun _ => iprop(emp)) (FIN m) (u₀ (F := F)) (sep_elim_left.trans (hu₀ m)) (hmain m ρ) (fq m) (hfin m) (QC m)
    (fun _ h hz => ⟨h, hz⟩)

end Cert.Proof.KernelIdeal

end
-- ==== Proof.ValueKernelIdeal.lean ====
/-
  The result the launch leaves is the table's rows at the indices, and the run with that value.
-/
module

public import proofs.«01_k».proof.Proof.MainKernelIdeal
public import proofs.«01_k».proof.Proof.Take
public import Idealize.ShloMosaic.Lib.KernelVsHost
public import Idealize.ShloMosaic.Lib.Pipeline.Value

@[expose] public section

noncomputable section

namespace Cert.Proof.KernelIdeal

open Cert.KernelIdeal Cert.KernelIdeal.Gen Cert.Proof.Steps
open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held wp_hlo_within)

variable {F : FTy → Type} [FloatOps F]
local notation "𝕄" => MT nD τ sig (HIx 2) (Elt F) ℕ UU ℕ

variable (m : (a : Loc nD τ sig) → Buf (Elt F) a) (ρ : Dev nD → PrngReg)

/-- The transposed indices at `(j, i)`. -/
theorem TR_apply (d : Dev nD) (j : Fin 50) (i : Fin 16384) : TR m d (ix2 j i) = (m (aLoc d) : S16384x50.Idx → Elt F .i32) (ix2 i j) := by
  refine transpose_apply _ _ _ _ _ fun b => ?_
  match b with
  | ⟨0, _⟩ => rfl
  | ⟨1, _⟩ => rfl

/-- The padded table within the table's own columns. -/
theorem TB_apply (d : Dev nD) (r : Fin 1000000) (k : Fin 64) :
    TB m d (ix2 r ⟨k.val, by omega⟩) = (m (bLoc d) : S1000000x64.Idx → Elt F .f32) (ix2 r k) := by
  refine pad_apply_of_inside _ _ _ _ _ _ _ _ _ fun a => ?_
  match a with
  | ⟨0, _⟩ => show r.val = 0 + r.val * (0 + 1); omega
  | ⟨1, _⟩ => show k.val = 0 + k.val * (0 + 1); omega

/-- The list's word number `16384 j + i` is the index at `(i, j)`. -/
theorem LS_apply (d : Dev nD) (j : Fin 50) (i : Fin 16384) (n : Fin 819200) (hn : n.val = 16384 * j.val + i.val) :
    LS m d (ix1 n) = (m (aLoc d) : S16384x50.Idx → Elt F .i32) (ix2 i j) := by
  rw [← TR_apply m d j i]
  unfold LS listOf
  refine congrArg₂ (fun a b => TR m d (ix2 a b)) (Fin.ext ?_) (Fin.ext ?_)
  · show n.val / 16384 = j.val
    have := i.isLt
    omega
  · show n.val % 16384 = i.val
    have := i.isLt
    omega

/-- The result is the table's rows at the indices. -/
theorem RES_eq (d : Dev nD) : RES m d = Cert.Proof.Take.take (F := F) (m (aLoc d)) (m (bLoc d)) := by
  funext y
  have h0 : (y 0).val < 16384 := (y 0).isLt
  have h1 : (y 1).val < 50 := (y 1).isLt
  have h2 : (y 2).val < 64 := (y 2).isLt
  have e : RES m d y = OUT m d (ix3 ⟨(y 1).val, h1⟩ ⟨(y 2).val, h2⟩ ⟨(y 0).val, h0⟩) := by
    refine transpose_apply _ _ _ _ _ fun b => ?_
    match b with
    | ⟨0, _⟩ => rfl
    | ⟨1, _⟩ => rfl
    | ⟨2, _⟩ => rfl
  rw [e]
  unfold OUT outOf Cert.Proof.Take.take
  refine (TB_apply m d _ ⟨(y 2).val, h2⟩).trans ?_
  refine congrArg (fun r => (m (bLoc d) : S1000000x64.Idx → Elt F .f32) (ix2 r ⟨(y 2).val, h2⟩)) (congrArg rowOf ?_)
  exact LS_apply m d ⟨(y 1).val, h1⟩ ⟨(y 0).val, h0⟩ _ rfl

/-- From any memory whose indices name table rows, the program ends with the table's rows at the indices, its arguments
    unchanged and no count on a semaphore. -/
theorem run [∀ e, Nonempty (Elt F e)] (h : PreOK m) :
    θ_run (Cert.KernelIdeal.defs (F := F)) (Cert.KernelIdeal.threads (F := F)) ⟨m, fun _ => 0, ρ⟩ fun r =>
      (∀ c : Dev nD, r.2.mem (resLoc c) = Cert.Proof.Take.take (F := F) (m (aLoc c)) (m (bLoc c))
        ∧ r.2.mem (aLoc c) = m (aLoc c) ∧ r.2.mem (bLoc c) = m (bLoc c)) ∧ r.2.sem = fun _ => 0 :=
  (θ_run (Cert.KernelIdeal.defs (F := F)) _ _).mono
    (fun _ hr => ⟨fun c => ⟨(hr.1 c).2.2.trans (RES_eq m c), (hr.1 c).1, (hr.1 c).2.1⟩, hr.2⟩) (run_main m ρ h)

end Cert.Proof.KernelIdeal

end
-- ==== Proof.RefValue.lean ====
/-
  The reference's result under the precondition: its bounds checks all pass, so it is the table's rows at the indices.
-/
module

public import proofs.«01_k».proof.Proof.Take
public import proofs.«01_k».proof.Proof.Gen.ReferenceIdeal
public import proofs.«01_k».proof.Proof.Gen.ReferenceIdeal.Run
public import Idealize.ShloMosaic.Lib.Pipeline.Value

@[expose] public section

noncomputable section

namespace Cert.Proof.Ref

open Cert.ReferenceIdeal Cert.ReferenceIdeal.Gen Cert.Proof.Take
open Idealize.ShloMosaic Idealize.ShloMosaic.WordCmp Idealize.ShloMosaic.ValueIdx Idealize.SL.Sem

variable {F : FTy → Type} [FloatOps F]

/-- The indices after the reference's own treatment of negative ones. -/
def wrapped (v : IVec S16384x50 32) : IVec S16384x50 32 :=
  select (cmpi .slt v (broadcastInDim S16384x50 ![] bcast_S_S16384x50 (constantI S_ 32 0#32)))
    (addi v (broadcastInDim S16384x50 ![] bcast_S_S16384x50 (constantI S_ 32 1000000#32))) v

/-- The same with a unit axis added, as the gather takes them. -/
def starts (v : IVec S16384x50 32) : IVec S16384x50x1 32 :=
  broadcastInDim S16384x50x1 ![0, 1] bcast_S16384x50_S16384x50x1_0_1 (wrapped v)

/-- Where the index is in range. -/
def inside (v : IVec S16384x50 32) : IVec S16384x50 1 :=
  Host.reduce IntOp.andi (andi (cmpi .sge (starts v) (broadcastInDim S16384x50x1 ![] bcast_S_S16384x50x1 (constantI S_ 32 0#32)))
      (cmpi .sle (starts v) (broadcastInDim S16384x50x1 ![0, 1, 2] bcast_S1x1x1_S16384x50x1_0_1_2
        (broadcastInDim S1x1x1 ![2] bcast_S1_S1x1x1_2 (constantI S1 32 999999#32)))))
    (constantI S_ 1 1#1) reducesTo_S16384x50x1_S16384x50_d2 h_S_

/-- The reference's result. -/
def result (v : IVec S16384x50 32) (x : FVec F S1000000x64 .f32) : FVec F S16384x50x64 .f32 :=
  select (broadcastInDim S16384x50x64 ![0, 1] bcast_S16384x50_S16384x50x64_0_1 (inside v))
    (Host.gather gather_S1000000x64_S16384x50x1_S16384x50x64_2_0_n_n_0_2_164 x (starts v))
    (broadcastInDim S16384x50x64 ![] bcast_S_S16384x50x64 (constant S_ .f32 0x7FC00000#32))

variable {v : IVec S16384x50 32} (h : ∀ j, (v j).toNat < 1000000)

include h in
/-- No index is negative, so they stay as they are. -/
theorem wrapped_eq : wrapped v = v := by
  funext j
  have hc : IntOp.cmpi .slt (v j) 0#32 = 0#1 := by
    have := h j
    simp only [IntOp.cmpi, ofBool_eq_zero_iff, BitVec.slt_eq_decide, decide_eq_false_iff_not, BitVec.toInt_eq_toNat_cond, BitVec.toNat_ofNat]
    split <;> simp <;> omega
  show Scalar.select (IntOp.cmpi .slt (v j) 0#32) _ (v j) = v j
  rw [hc]
  rfl

include h in
/-- The start index at `(i, j, 0)` is the index at `(i, j)`. -/
theorem starts_apply (j : S16384x50x1.Idx) : starts v j = v (ix2 ⟨(j 0).val, (j 0).isLt⟩ ⟨(j 1).val, (j 1).isLt⟩) := by
  unfold starts
  rw [wrapped_eq h]
  refine broadcastInDim_apply _ _ _ _ _ fun a => ?_
  match a with
  | ⟨0, _⟩ => rfl
  | ⟨1, _⟩ => rfl

include h in
/-- Every index is in range. -/
theorem inside_eq (j : S16384x50.Idx) : inside v j = 1#1 := by
  refine Host.reduce_andi_one _ _ _ _ j rfl fun i => ?_
  show IntOp.andi (IntOp.cmpi .sge (starts v i) 0#32) (IntOp.cmpi .sle (starts v i) 999999#32) = 1#1
  rw [starts_apply h]
  have := h (ix2 ⟨(i 0).val, (i 0).isLt⟩ ⟨(i 1).val, (i 1).isLt⟩)
  simp only [IntOp.cmpi, andi_ofBool, ofBool_eq_one_iff, Bool.and_eq_true, BitVec.sle_eq_decide, decide_eq_true_eq,
    BitVec.toInt_eq_toNat_cond, BitVec.toNat_ofNat]
  constructor <;> split <;> simp <;> omega

/-- The gather at `(i, j, k)`: column `k` of the row the start index at `(i, j, 0)` names, kept within the table. -/
theorem gather_apply (x : FVec F S1000000x64 .f32) (s : IVec S16384x50x1 32) (y : S16384x50x64.Idx) :
    Host.gather gather_S1000000x64_S16384x50x1_S16384x50x64_2_0_n_n_0_2_164 x s y
      = x (ix2 ⟨min (s (ix3 ⟨(y 0).val, (y 0).isLt⟩ ⟨(y 1).val, (y 1).isLt⟩ ⟨0, Nat.one_pos⟩)).toInt.toNat 999999, by omega⟩ ⟨(y 2).val, (y 2).isLt⟩) := by
  set G := gather_S1000000x64_S16384x50x1_S16384x50x64_2_0_n_n_0_2_164 with hG
  unfold Host.gather
  congr 1
  funext a
  refine Fin.ext ?_
  match a with
  | ⟨0, _⟩ =>
    show G.start y s 0 + G.batchCoord y 0 + G.offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ G.startIndexMap from List.mem_singleton.mpr rfl)]
    have hsi : G.siIdx y ⟨List.idxOf (0 : Fin 2) G.startIndexMap, List.idxOf_lt_length_iff.2 (List.mem_singleton.mpr rfl)⟩
        = ix3 ⟨(y 0).val, (y 0).isLt⟩ ⟨(y 1).val, (y 1).isLt⟩ ⟨0, Nat.one_pos⟩ := by
      funext b
      refine Fin.ext ?_
      match b with
      | ⟨0, _⟩ => rfl
      | ⟨1, _⟩ => rfl
      | ⟨2, _⟩ => rfl
    rw [hsi]
    rfl
  | ⟨1, _⟩ =>
    show G.start y s 1 + G.batchCoord y 1 + G.offCoord y 1 = _
    rw [GatherDims.batchCoord_eq_zero _ _ _ List.not_mem_nil]
    unfold GatherDims.start
    rw [dif_neg (show (1 : Fin 2) ∉ G.startIndexMap from fun hm => absurd (List.mem_singleton.mp hm) (by decide))]
    simp only [Nat.zero_add]
    rfl

include h in
/-- The reference's result is the table's rows at the indices. -/
theorem result_eq (x : FVec F S1000000x64 .f32) : result v x = take v x := by
  funext y
  unfold result
  rw [select_apply, gather_apply]
  have hm : broadcastInDim S16384x50x64 ![0, 1] bcast_S16384x50_S16384x50x64_0_1 (inside v) y = 1#1 := inside_eq h _
  rw [hm]
  unfold Scalar.select take
  rw [if_pos (show (1#1 : BitVec 1) = 1 from rfl)]
  refine congrArg x (congrArg (fun r => ix2 r _) (Fin.ext ?_))
  have hl := h (ix2 ⟨(y 0).val, (y 0).isLt⟩ ⟨(y 1).val, (y 1).isLt⟩)
  show min (BitVec.toInt (starts v _)).toNat 999999 = _
  rw [starts_apply h]
  show min (BitVec.toInt (v (ix2 ⟨(y 0).val, (y 0).isLt⟩ ⟨(y 1).val, (y 1).isLt⟩))).toNat 999999 = _ % 1000000
  rw [BitVec.toInt_eq_toNat_cond]
  split <;> omega

/-- The reference ends with the table's rows at the indices, its arguments unchanged and no count on a semaphore. -/
theorem run (m : (ℓ : Loc nD τ sig) → Buf (Elt F) ℓ) (ρ : Dev nD → PrngReg)
    (h : ∀ (c : Dev nD) (j : S16384x50.Idx), ((m ((c.tc : Thread nD τ).loc main_arg0) : IVec S16384x50 32) j).toNat < 1000000) :
    θ_run defs (onTc (τ := τ) (main (F := F))) ⟨m, fun _ => 0, ρ⟩ fun r => (∀ c : Dev nD,
      r.2.mem ((c.tc : Thread nD τ).loc main_v0) = take (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 :=
  (θ_run defs _ _).mono (fun r hr => ⟨fun c => ⟨(hr c).1.trans (result_eq (h c) _), (hr c).2⟩, sem_eq_zero_of_no_sems (by decide) r.2⟩)
    (Cert.ReferenceIdeal.Value.run m ρ)

end Cert.Proof.Ref

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_in_vocab
public import proofs.«01_k».proof.Proof.ValueKernel
public import proofs.«01_k».proof.Proof.ValueKernelIdeal
public import proofs.«01_k».proof.Proof.RefValue
public import Idealize.ShloMosaic.Adequacy
public import Idealize.ShloMosaic.Init

@[expose] public section

noncomputable section

namespace Cert.Proof

open Idealize.ShloMosaic Idealize.SL.Sem

/-- Under the precondition the kernel's indices name rows of the table. -/
theorem ok_kernel (m : (ℓ : Loc Cert.Kernel.nD Cert.Kernel.τ Cert.Kernel.sig) → Buf (Elt Bits) ℓ) (h : Cert.Pre_Kernel m) :
    Cert.Proof.Kernel.PreOK (F := Bits) m := fun d j => Take.lt_of_pre (F := Bits) _ _ (h d) j

/-- The same of the idealized kernel's. -/
theorem ok_kernelIdeal (m : (ℓ : Loc Cert.KernelIdeal.nD Cert.KernelIdeal.τ Cert.KernelIdeal.sig) → Buf (Elt Ideal) ℓ) (h : Cert.Pre_KernelIdeal m) :
    Cert.Proof.KernelIdeal.PreOK (F := Ideal) m := fun d j => Take.lt_of_pre (F := Ideal) _ _ (h d) j

/-- The kernel runs, keeps its arguments and ends with every semaphore at zero. -/
theorem frame_kernel : Cert.quiescent_Kernel := fun m g hpre =>
  (θ_run (Cert.Kernel.defs (F := Bits)) _ _).mono (fun _ h => ⟨fun c => (h.1 c).2, h.2⟩) (Cert.Proof.Kernel.run (F := Bits) m g (ok_kernel m hpre))

/-- So does the idealized kernel. -/
theorem frame_kernelIdeal : Cert.quiescent_KernelIdeal := fun m g hpre =>
  (θ_run (Cert.KernelIdeal.defs (F := Ideal)) _ _).mono (fun _ h => ⟨fun c => (h.1 c).2, h.2⟩)
    (Cert.Proof.KernelIdeal.run (F := Ideal) m g (ok_kernelIdeal m hpre))

/-- So does the reference. -/
theorem frame_reference : Cert.quiescent_ReferenceIdeal := fun m g hpre =>
  (θ_run (Cert.ReferenceIdeal.defs (F := Ideal)) _ _).mono (fun _ h => ⟨fun c => (h.1 c).2, h.2⟩)
    (Ref.run (F := Ideal) m g fun c j => Take.lt_of_pre (F := Ideal) _ _ (hpre c) j)

/-- From memories that agree on the arguments the idealized kernel and the reference end with equal results. -/
theorem equal_results : Cert.algebraic_KernelIdeal_ReferenceIdeal := fun m g m' g' hpre hargs =>
  ⟨fun c => Take.take (F := Ideal) (m (Cert.Proof.KernelIdeal.aLoc c)) (m (Cert.Proof.KernelIdeal.bLoc c)),
    (θ_run (Cert.KernelIdeal.defs (F := Ideal)) _ _).mono (fun _ h => h.1) (Cert.Proof.KernelIdeal.run (F := Ideal) m g (ok_kernelIdeal m hpre)),
    (θ_run (Cert.ReferenceIdeal.defs (F := Ideal)) _ _).mono
      (fun _ h c => ⟨(h.1 c).1.trans (congrArg₂ (Take.take (F := Ideal)) (hargs c).1 (hargs c).2), (h.1 c).2⟩)
      (Ref.run (F := Ideal) m' g' fun c j => by
        rw [(hargs c).1]
        exact ok_kernelIdeal m hpre c j)⟩

theorem claim : Cert.Claim := ⟨Cert.Kernel.Gen.facts, Cert.KernelIdeal.Gen.facts, Cert.ReferenceIdeal.Gen.facts, Cert.Pre_in_vocab.Gen.facts,
  frame_kernel, frame_kernelIdeal, frame_reference, trivial, equal_results⟩

end Cert.Proof

end
